-- ==== Defs.lean ====
def Pre_Kernel [hPre_labels_in_storage : Cert.Pre_labels_in_storage.Facts] (m : (ℓ : Loc Cert.Kernel.nD Cert.Kernel.τ Cert.Kernel.sig) → Buf (Elt Bits) ℓ) : Prop :=
  ∀ c : Dev Cert.Kernel.nD,
    (Cert.Pre_labels_in_storage.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_labels_in_storage : Cert.Pre_labels_in_storage.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_storage.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_labels_in_storage_and_finite [hPre_labels_in_storage_and_finite : Cert.Pre_labels_in_storage_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_storage_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_labels_in_storage_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_labels_in_storage_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_storage_and_finite [hPre_labels_in_storage_and_finite : Cert.Pre_labels_in_storage_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_storage_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_labels_in_storage_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_labels_in_storage_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] [hPre_labels_in_storage : Cert.Pre_labels_in_storage.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_labels_in_storage : Cert.Pre_labels_in_storage.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels_in_storage_and_finite [hKernelIdeal : Cert.KernelIdeal.Facts] [hPre_labels_in_storage_and_finite : Cert.Pre_labels_in_storage_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_storage_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels_in_storage_and_finite [hReferenceIdeal : Cert.ReferenceIdeal.Facts] [hPre_labels_in_storage_and_finite : Cert.Pre_labels_in_storage_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_storage_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_labels_in_storage_and_finite [hKernelIdeal : Cert.KernelIdeal.Facts] [hReferenceIdeal : Cert.ReferenceIdeal.Facts] [hPre_labels_in_storage_and_finite : Cert.Pre_labels_in_storage_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_storage_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_labels_in_storage : Cert.Pre_labels_in_storage.Facts) (hPre_labels_in_storage_and_finite : Cert.Pre_labels_in_storage_and_finite.Facts),
    quiescent_Kernel (hKernel := hKernel) (hPre_labels_in_storage := hPre_labels_in_storage)
    ∧ quiescent_KernelIdeal (hKernelIdeal := hKernelIdeal) (hPre_labels_in_storage := hPre_labels_in_storage)
    ∧ quiescent_KernelIdeal_pre_labels_in_storage_and_finite (hKernelIdeal := hKernelIdeal) (hPre_labels_in_storage_and_finite := hPre_labels_in_storage_and_finite)
    ∧ quiescent_ReferenceIdeal (hReferenceIdeal := hReferenceIdeal)
    ∧ quiescent_ReferenceIdeal_pre_labels_in_storage_and_finite (hReferenceIdeal := hReferenceIdeal) (hPre_labels_in_storage_and_finite := hPre_labels_in_storage_and_finite)
    ∧ preserves_Kernel_KernelIdeal
    ∧ algebraic_KernelIdeal_ReferenceIdeal_pre_labels_in_storage_and_finite (hKernelIdeal := hKernelIdeal) (hReferenceIdeal := hReferenceIdeal) (hPre_labels_in_storage_and_finite := hPre_labels_in_storage_and_finite)
-- ==== Pre_labels_in_storage.lean ====
abbrev S1024x128 : Shape := ⟨2, ![1024, 128]⟩
abbrev S1024 : Shape := ⟨1, ![1024]⟩
abbrev S100000x128 : Shape := ⟨2, ![100000, 128]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S1024x128 .f32) (main_arg1 : IVec S1024 32) (main_arg2 : IVec S1024 32) (main_arg3 : IVec S1024 32) (main_arg4 : FVec F S100000x128 .f32) : IVec S1024 1 :=
  let main_c : IVec S_ 32 := constantI S_ 32 0#32
  let main_v0 : IVec S1024 32 := broadcastInDim S1024 ![] bcast_S_S1024 main_c
  let main_v1 : IVec S1024 1 := cmpi .sge main_arg3 main_v0
  let main_c_0 : IVec S_ 32 := constantI S_ 32 100000#32
  let main_v2 : IVec S1024 32 := broadcastInDim S1024 ![] bcast_S_S1024 main_c_0
  let main_v3 : IVec S1024 1 := cmpi .slt main_arg3 main_v2
  let main_v4 : IVec S1024 1 := andi main_v1 main_v3
  main_v4
-- ==== Pre_labels_in_storage_and_finite.lean ====
abbrev S1024x128 : Shape := ⟨2, ![1024, 128]⟩
abbrev S1024 : Shape := ⟨1, ![1024]⟩
abbrev S100000x128 : Shape := ⟨2, ![100000, 128]⟩
abbrev S_ : Shape := ⟨0, ![]⟩

class Facts : Prop where
  bcast_S_S1024 : S_.BroadcastsInDim S1024 (![] : Fin 0 → Fin S1024.rank)
  bcast_S_S1024x128 : S_.BroadcastsInDim S1024x128 (![] : Fin 0 → Fin S1024x128.rank)
  bcast_S_S100000x128 : S_.BroadcastsInDim S100000x128 (![] : Fin 0 → Fin S100000x128.rank)

variable [Facts]

def fn {F : FTy → Type} [FloatOps F] (main_arg0 : FVec F S1024x128 .f32) (main_arg1 : IVec S1024 32) (main_arg2 : IVec S1024 32) (main_arg3 : IVec S1024 32) (main_arg4 : FVec F S100000x128 .f32) : IVec S1024 1 × IVec S1024x128 1 × IVec S100000x128 1 :=
  let main_c : IVec S_ 32 := constantI S_ 32 0#32
  let main_v0 : IVec S1024 32 := broadcastInDim S1024 ![] bcast_S_S1024 main_c
  let main_v1 : IVec S1024 1 := cmpi .sge main_arg3 main_v0
  let main_c_0 : IVec S_ 32 := constantI S_ 32 100000#32
  let main_v2 : IVec S1024 32 := broadcastInDim S1024 ![] bcast_S_S1024 main_c_0
  let main_v3 : IVec S1024 1 := cmpi .slt main_arg3 main_v2
  let main_v4 : IVec S1024 1 := andi main_v1 main_v3
  let main_v5 : FVec F S1024x128 .f32 := Host.absf main_arg0
  let main_cst : FVec F S_ .f32 := constant S_ .f32 0x7F800000#32
  let main_v6 : FVec F S1024x128 .f32 := broadcastInDim S1024x128 ![] bcast_S_S1024x128 main_cst
  let main_v7 : IVec S1024x128 1 := cmpf .olt main_v5 main_v6
  let main_v8 : FVec F S100000x128 .f32 := Host.absf main_arg4
  let main_cst_1 : FVec F S_ .f32 := constant S_ .f32 0x7F800000#32
  let main_v9 : FVec F S100000x128 .f32 := broadcastInDim S100000x128 ![] bcast_S_S100000x128 main_cst_1
  let main_v10 : IVec S100000x128 1 := cmpf .olt main_v8 main_v9
  (main_v4, main_v7, main_v10)
-- ==== Kernel.lean ====
abbrev S1024x128 : Shape := ⟨2, ![1024, 128]⟩
abbrev S1024 : Shape := ⟨1, ![1024]⟩
abbrev S100000x128 : Shape := ⟨2, ![100000, 128]⟩
abbrev S1x1024 : Shape := ⟨2, ![1, 1024]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S128x1024 : Shape := ⟨2, ![128, 1024]⟩
abbrev S1x1 : Shape := ⟨2, ![1, 1]⟩
abbrev S4000x128 : Shape := ⟨2, ![4000, 128]⟩
abbrev S2000x1024 : Shape := ⟨2, ![2000, 1024]⟩
abbrev S2000x128 : Shape := ⟨2, ![2000, 128]⟩
abbrev S1x1x1024 : Shape := ⟨3, ![1, 1, 1024]⟩
abbrev S1x1x1 : Shape := ⟨3, ![1, 1, 1]⟩

abbrev nBuf : Table → Nat
  | .hbm => 16
  | .local .tc .vmem => 9
  | .local .scVector .vmem => 2
  | _ => 0

abbrev bufTy : (tb : Table) → Fin (nBuf tb) → BufTy
  | .hbm, ⟨0, _⟩ => ⟨S1024x128, .f32⟩
  | .hbm, ⟨1, _⟩ => ⟨S1024, .i32⟩
  | .hbm, ⟨2, _⟩ => ⟨S1024, .i32⟩
  | .hbm, ⟨3, _⟩ => ⟨S1024, .i32⟩
  | .hbm, ⟨4, _⟩ => ⟨S100000x128, .f32⟩
  | .hbm, ⟨5, _⟩ => ⟨S1x1024, .i32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S128x1024, .f32⟩
  | .hbm, ⟨11, _⟩ => ⟨S128x1024, .bf16⟩
  | .hbm, ⟨12, _⟩ => ⟨S128x1024, .f32⟩
  | .hbm, ⟨13, _⟩ => ⟨S128x1024, .bf16⟩
  | .hbm, ⟨14, _⟩ => ⟨S1x1, .f32⟩
  | .hbm, ⟨15, _⟩ => ⟨S_, .f32⟩
  | .local .tc .vmem, ⟨0, _⟩ => ⟨S128x1024, .bf16⟩
  | .local .tc .vmem, ⟨1, _⟩ => ⟨S4000x128, .f32⟩
  | .local .tc .vmem, ⟨2, _⟩ => ⟨S4000x128, .f32⟩
  | .local .tc .vmem, ⟨3, _⟩ => ⟨S128x1024, .bf16⟩
  | .local .tc .vmem, ⟨4, _⟩ => ⟨S1x1, .f32⟩
  | .local .tc .vmem, ⟨5, _⟩ => ⟨S2000x1024, .f32⟩
  | .local .tc .vmem, ⟨6, _⟩ => ⟨S2000x1024, .f32⟩
  | .local .tc .vmem, ⟨7, _⟩ => ⟨S1x1024, .f32⟩
  | .local .tc .vmem, ⟨8, _⟩ => ⟨S1x1024, .f32⟩
  | .local .scVector .vmem, ⟨0, _⟩ => ⟨S2x1x128, .i32⟩
  | .local .scVector .vmem, ⟨1, _⟩ => ⟨S2x128x128, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_arg4_scv : Ref sig .scVector := ⟨.hbm, 4, rfl⟩
abbrev main_v0_scv : Ref sig .scVector := ⟨.hbm, 5, rfl⟩
abbrev main_v1_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg3_0 : Ref sig .tc := ⟨.vmem, 4, rfl⟩
abbrev cc1_scratch0 : Ref sig .tc := ⟨.vmem, 5, rfl⟩
abbrev cc1_scratch1 : Ref sig .tc := ⟨.vmem, 6, rfl⟩
abbrev cc1_scratch2 : Ref sig .tc := ⟨.vmem, 7, rfl⟩
abbrev cc1_scratch3 : Ref sig .tc := ⟨.vmem, 8, rfl⟩
abbrev cc0_scoped0 : Ref sig .scVector := ⟨.vmem, 0, rfl⟩
abbrev cc0_scoped2 : Ref sig .scVector := ⟨.vmem, 1, rfl⟩
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let c0_i32_5_r0 : BitVec 32 := 0#32
  let v10_r0 : BitVec 1 := Scalar.cmpi .sgt v7 c0_i32_5_r0
  let v11_r0 : BitVec 32 := Scalar.extui v10_r0
  let c0_i32_6_r0 : BitVec 32 := 0#32
  let v12_r0 : BitVec 1 := Scalar.cmpi .ne v11_r0 c0_i32_6_r0
  v12_r0

def k0_cond2 (i : grid0.Coords) : BitVec 1 :=
  let true_22_r0 : BitVec 1 := 1#1
  let c1_i32_7_r0 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v13_r0 : BitVec 32 := Scalar.muli c1_i32_7_r0 v1
  let c0_i32_21_r0 : BitVec 32 := 0#32
  let v31_r0 : BitVec 1 := Scalar.cmpi .sgt v13_r0 c0_i32_21_r0
  let v32_r0 : BitVec 1 := Scalar.andi true_22_r0 v31_r0
  let true_23_r0 : BitVec 1 := 1#1
  let v33_r0 : BitVec 1 := Scalar.andi v32_r0 true_23_r0
  let v34_r0 : BitVec 32 := Scalar.extui v33_r0
  let c0_i32_25_r0 : BitVec 32 := 0#32
  let v35_r0 : BitVec 1 := Scalar.cmpi .ne v34_r0 c0_i32_25_r0
  v35_r0

def k0_off1 : Fin 3 → Nat :=
  let c0_i32_24_r0 : BitVec 32 := 0#32
  let c2_i32_r0 : BitVec 32 := 2#32
  let v76_r0 : BitVec 32 := Scalar.remui c0_i32_24_r0 c2_i32_r0
  let c0_i32_57_r0 : BitVec 32 := 0#32
  let c0_i32_58_r0 : BitVec 32 := 0#32
  ![v76_r0.toNat, 0, 0]
def k0_off2 (i : grid0.Coords) : Fin 2 → Nat :=
  let c0_i32_59_r0 : BitVec 32 := 0#32
  let c128_i32_r0 : BitVec 32 := 128#32
  let c0_i32_10_r0 : BitVec 32 := 0#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v16_r0 : BitVec 32 := Scalar.addi c0_i32_10_r0 v6
  let v77_r0 : BitVec 32 := Scalar.muli c128_i32_r0 v16_r0
  ![0, v77_r0.toNat]
def k0_off3 : Fin 1 → Nat :=
  let c0_i32_24_r0 : BitVec 32 := 0#32
  let c2_i32_r0 : BitVec 32 := 2#32
  let v76_r0 : BitVec 32 := Scalar.remui c0_i32_24_r0 c2_i32_r0
  ![v76_r0.toNat]
@[reducible] def k0_t1_loop (i : grid0.Coords) : Scf.Loop 32 :=
  let c0_i32_29_r0 : BitVec 32 := 0#32
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_35_r0 : BitVec 32 := 1#32
  ⟨c0_i32_29_r0, v42_r0, c1_i32_35_r0⟩
def k0_off4 (arg6_r0 : BitVec 32) : Fin 3 → Nat :=
  let c2_i32_101_r0 : BitVec 32 := 2#32
  let v163_r0 : BitVec 32 := Scalar.remui arg6_r0 c2_i32_101_r0
  let c0_i32_102_r0 : BitVec 32 := 0#32
  let c0_i32_103_r0 : BitVec 32 := 0#32
  ![v163_r0.toNat, 0, 0]
def k0_cond3 (i : grid0.Coords) (k0_t1 : Fin (k0_t1_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v97_r0 : BitVec 1 := Scalar.cmpi .ne v80_r0 v91_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v76_r0 : BitVec 32 := Scalar.muli c1_i32_57_r0 v1
  let c2_i32_r0 : BitVec 32 := 2#32
  let v98_r0 : BitVec 32 := Scalar.subi v76_r0 c2_i32_r0
  let c1_i32_70_r0 : BitVec 32 := 1#32
  let v99_r0 : BitVec 32 := Scalar.addi v98_r0 c1_i32_70_r0
  let v100_r0 : BitVec 1 := Scalar.cmpi .sge arg5_r0 v99_r0
  let true_71_r0 : BitVec 1 := 1#1
  let v101_r0 : BitVec 1 := Scalar.xori v100_r0 true_71_r0
  let v102_r0 : BitVec 1 := Scalar.andi v97_r0 v101_r0
  let true_72_r0 : BitVec 1 := 1#1
  let v103_r0 : BitVec 1 := Scalar.andi v102_r0 true_72_r0
  let v104_r0 : BitVec 32 := Scalar.extui v103_r0
  let c0_i32_73_r0 : BitVec 32 := 0#32
  let v105_r0 : BitVec 1 := Scalar.cmpi .ne v104_r0 c0_i32_73_r0
  v105_r0

def k0_off5 (i : grid0.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v89_r0 : BitVec 1 := Scalar.cmpi .eq v88_r0 v1
  let c0_i32_66_r0 : BitVec 32 := 0#32
  let v90_r0 : BitVec 32 := Scalar.select v89_r0 c0_i32_66_r0 v88_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v91_r0 : BitVec 32 := Scalar.addi v90_r0 v6
  let v164_r0 : BitVec 32 := Scalar.muli c128_i32_r0 v91_r0
  ![0, v164_r0.toNat]
def k0_off6 (arg6_r0 : BitVec 32) : Fin 1 → Nat :=
  let c2_i32_101_r0 : BitVec 32 := 2#32
  let v163_r0 : BitVec 32 := Scalar.remui arg6_r0 c2_i32_101_r0
  ![v163_r0.toNat]
def k0_off7 (arg7_r0 : BitVec 32) : Fin 3 → Nat :=
  let c2_i32_101_r0 : BitVec 32 := 2#32
  let v164_r0 : BitVec 32 := Scalar.remui arg7_r0 c2_i32_101_r0
  let c0_i32_102_r0 : BitVec 32 := 0#32
  let c0_i32_103_r0 : BitVec 32 := 0#32
  ![v164_r0.toNat, 0, 0]
def k0_cond4 (i : grid0.Coords) (k0_t1 : Fin (k0_t1_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v115_r0 : BitVec 1 := Scalar.cmpi .ne v80_r0 v86_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v77_r0 : BitVec 1 := Scalar.cmpi .eq arg5_r0 c0_i32_58_r0
  let v116_r0 : BitVec 1 := Scalar.ori v115_r0 v77_r0
  let c0_i32_79_r0 : BitVec 32 := 0#32
  let v117_r0 : BitVec 1 := Scalar.cmpi .sge arg5_r0 c0_i32_79_r0
  let v118_r0 : BitVec 1 := Scalar.andi v116_r0 v117_r0
  let v119_r0 : BitVec 32 := Scalar.extui v118_r0
  let c0_i32_80_r0 : BitVec 32 := 0#32
  let v120_r0 : BitVec 1 := Scalar.cmpi .ne v119_r0 c0_i32_80_r0
  v120_r0

def k0_off8 (i : grid0.Coords) (arg10_r0 : BitVec 32) : Fin 2 → Nat :=
  let c0_i32_104_r0 : BitVec 32 := 0#32
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let v163_r0 : BitVec 32 := Scalar.muli c128_i32_r0 v80_r0
  ![0, v163_r0.toNat]
def k0_off9 (arg7_r0 : BitVec 32) : Fin 1 → Nat :=
  let c2_i32_101_r0 : BitVec 32 := 2#32
  let v164_r0 : BitVec 32 := Scalar.remui arg7_r0 c2_i32_101_r0
  ![v164_r0.toNat]
def k0_off10 (arg8_r0 : BitVec 32) : Fin 3 → Nat :=
  let c2_i32_84_r0 : BitVec 32 := 2#32
  let v128_r0 : BitVec 32 := Scalar.remui arg8_r0 c2_i32_84_r0
  let c0_i32_101_r1 : BitVec 32 := 0#32
  let c0_i32_102_r1 : BitVec 32 := 0#32
  ![v128_r0.toNat, 0, 0]

def k0_chk2 (i : grid0.Coords) (k0_t1 : Fin (k0_t1_loop i).trips) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (k0_t1 : Fin (k0_t1_loop i).trips) (arg8_r0 : BitVec 32) (k0_hw2 : k0_chk2 i k0_t1 arg8_r0), ∀ (k0_h1 : k0_cond1 i = 1#1), ∀ a, (k0_off10 arg8_r0) a + S1x128x128.size a ≤ S2x128x128.size a := fun i k0_t1 arg8_r0 k0_hw2 k0_h1 => k0_hw2 k0_h1

def k0_off11 (arg7_r0 : BitVec 32) : Fin 3 → Nat :=
  let c2_i32_83_r0 : BitVec 32 := 2#32
  let v127_r0 : BitVec 32 := Scalar.remui arg7_r0 c2_i32_83_r0
  let c0_i32_103_r1 : BitVec 32 := 0#32
  let c0_i32_104_r1 : BitVec 32 := 0#32
  ![v127_r0.toNat, 0, 0]

def k0_chk3 (i : grid0.Coords) (k0_t1 : Fin (k0_t1_loop i).trips) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (k0_t1 : Fin (k0_t1_loop i).trips) (arg7_r0 : BitVec 32) (k0_hw3 : k0_chk3 i k0_t1 arg7_r0), ∀ (k0_h1 : k0_cond1 i = 1#1), ∀ a, (k0_off11 arg7_r0) a + S1x1x128.size a ≤ S2x1x128.size a := fun i k0_t1 arg7_r0 k0_hw3 k0_h1 => k0_hw3 k0_h1

def k0_off12 (arg8_r0 : BitVec 32) : Fin 3 → Nat :=
  let c2_i32_101_r0 : BitVec 32 := 2#32
  let v163_r0 : BitVec 32 := Scalar.remui arg8_r0 c2_i32_101_r0
  let c0_i32_102_r0 : BitVec 32 := 0#32
  let c0_i32_103_r0 : BitVec 32 := 0#32
  ![v163_r0.toNat, 0, 0]
def k0_cond7 (i : grid0.Coords) (k0_t1 : Fin (k0_t1_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v134_r0 : BitVec 1 := Scalar.cmpi .ne v80_r0 v91_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v76_r0 : BitVec 32 := Scalar.muli c1_i32_57_r0 v1
  let c1_i32_59_r0 : BitVec 32 := 1#32
  let v78_r0 : BitVec 32 := Scalar.subi v76_r0 c1_i32_59_r0
  let v79_r0 : BitVec 1 := Scalar.cmpi .eq arg5_r0 v78_r0
  let v135_r0 : BitVec 1 := Scalar.ori v134_r0 v79_r0
  let v136_r0 : BitVec 32 := Scalar.extui v135_r0
  let c0_i32_87_r0 : BitVec 32 := 0#32
  let v137_r0 : BitVec 1 := Scalar.cmpi .ne v136_r0 c0_i32_87_r0
  v137_r0

def k0_off13 (i : grid0.Coords) (arg10_r0 : BitVec 32) : Fin 2 → Nat :=
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let v164_r0 : BitVec 32 := Scalar.muli c128_i32_r0 v80_r0
  let c0_i32_104_r0 : BitVec 32 := 0#32
  ![v164_r0.toNat, 0]
def k0_off14 (arg8_r0 : BitVec 32) : Fin 1 → Nat :=
  let c2_i32_101_r0 : BitVec 32 := 2#32
  let v163_r0 : BitVec 32 := Scalar.remui arg8_r0 c2_i32_101_r0
  ![v163_r0.toNat]
def k0_off15 (arg9_r0 : BitVec 32) : Fin 3 → Nat :=
  let c2_i32_101_r0 : BitVec 32 := 2#32
  let v163_r0 : BitVec 32 := Scalar.remui arg9_r0 c2_i32_101_r0
  let c0_i32_102_r0 : BitVec 32 := 0#32
  let c0_i32_103_r0 : BitVec 32 := 0#32
  ![v163_r0.toNat, 0, 0]
def k0_cond9 (i : grid0.Coords) (k0_t1 : Fin (k0_t1_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v147_r0 : BitVec 1 := Scalar.cmpi .ne v80_r0 v86_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v77_r0 : BitVec 1 := Scalar.cmpi .eq arg5_r0 c0_i32_58_r0
  let true_93_r0 : BitVec 1 := 1#1
  let v148_r0 : BitVec 1 := Scalar.xori v77_r0 true_93_r0
  let v149_r0 : BitVec 1 := Scalar.andi v147_r0 v148_r0
  let v150_r0 : BitVec 32 := Scalar.extui v149_r0
  let c0_i32_94_r0 : BitVec 32 := 0#32
  let v151_r0 : BitVec 1 := Scalar.cmpi .ne v150_r0 c0_i32_94_r0
  v151_r0

def k0_off16 (i : grid0.Coords) (arg10_r0 : BitVec 32) : Fin 2 → Nat :=
  let c128_i32_r0 : BitVec 32 := 128#32
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let c1_i32_63_r0 : BitVec 32 := 1#32
  let v84_r0 : BitVec 32 := Scalar.subi v1 c1_i32_63_r0
  let v85_r0 : BitVec 32 := Scalar.select v83_r0 v84_r0 v82_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v86_r0 : BitVec 32 := Scalar.addi v85_r0 v6
  let v164_r0 : BitVec 32 := Scalar.muli c128_i32_r0 v86_r0
  let c0_i32_104_r0 : BitVec 32 := 0#32
  ![v164_r0.toNat, 0]
def k0_off17 (arg9_r0 : BitVec 32) : Fin 1 → Nat :=
  let c2_i32_101_r0 : BitVec 32 := 2#32
  let v163_r0 : BitVec 32 := Scalar.remui arg9_r0 c2_i32_101_r0
  ![v163_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x1024.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x1024.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S1024x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S1024x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x1024.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x1024.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S1024x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S1024x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let v39_r0 : BitVec 32 := Scalar.addi c0_i32_29_r0 v38_r0
  let c1_i32_36_r0 : BitVec 32 := 1#32
  ⟨v42_r0, v39_r0, c1_i32_36_r0⟩
def k0_off18 (arg6_r0 : BitVec 32) : Fin 3 → Nat :=
  let c2_i32_101_r0 : BitVec 32 := 2#32
  let v163_r0 : BitVec 32 := Scalar.remui arg6_r0 c2_i32_101_r0
  let c0_i32_102_r0 : BitVec 32 := 0#32
  let c0_i32_103_r0 : BitVec 32 := 0#32
  ![v163_r0.toNat, 0, 0]
def k0_cond10 (i : grid0.Coords) (k0_t2 : Fin (k0_t2_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v97_r0 : BitVec 1 := Scalar.cmpi .ne v80_r0 v91_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg5_r0 : BitVec 32 := Scf.iv v42_r0 c1_i32_36_r0 k0_t2
  let c1_i32_57_r0 : BitVec 32 := 1#32
  let v76_r0 : BitVec 32 := Scalar.muli c1_i32_57_r0 v1
  let c2_i32_r0 : BitVec 32 := 2#32
  let v98_r0 : BitVec 32 := Scalar.subi v76_r0 c2_i32_r0
  let c1_i32_70_r0 : BitVec 32 := 1#32
  let v99_r0 : BitVec 32 := Scalar.addi v98_r0 c1_i32_70_r0
  let v100_r0 : BitVec 1 := Scalar.cmpi .sge arg5_r0 v99_r0
  let true_71_r0 : BitVec 1 := 1#1
  let v101_r0 : BitVec 1 := Scalar.xori v100_r0 true_71_r0
  let v102_r0 : BitVec 1 := Scalar.andi v97_r0 v101_r0
  let true_72_r0 : BitVec 1 := 1#1
  let v103_r0 : BitVec 1 := Scalar.andi v102_r0 true_72_r0
  let v104_r0 : BitVec 32 := Scalar.extui v103_r0
  let c0_i32_73_r0 : BitVec 32 := 0#32
  let v105_r0 : BitVec 1 := Scalar.cmpi .ne v104_r0 c0_i32_73_r0
  v105_r0

def k0_off19 (i : grid0.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v89_r0 : BitVec 1 := Scalar.cmpi .eq v88_r0 v1
  let c0_i32_66_r0 : BitVec 32 := 0#32
  let v90_r0 : BitVec 32 := Scalar.select v89_r0 c0_i32_66_r0 v88_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v91_r0 : BitVec 32 := Scalar.addi v90_r0 v6
  let v164_r0 : BitVec 32 := Scalar.muli c128_i32_r0 v91_r0
  ![0, v164_r0.toNat]
def k0_off20 (arg6_r0 : BitVec 32) : Fin 1 → Nat :=
  let c2_i32_101_r0 : BitVec 32 := 2#32
  let v163_r0 : BitVec 32 := Scalar.remui arg6_r0 c2_i32_101_r0
  ![v163_r0.toNat]
def k0_off21 (arg7_r0 : BitVec 32) : Fin 3 → Nat :=
  let c2_i32_101_r0 : BitVec 32 := 2#32
  let v164_r0 : BitVec 32 := Scalar.remui arg7_r0 c2_i32_101_r0
  let c0_i32_102_r0 : BitVec 32 := 0#32
  let c0_i32_103_r0 : BitVec 32 := 0#32
  ![v164_r0.toNat, 0, 0]
def k0_cond11 (i : grid0.Coords) (k0_t2 : Fin (k0_t2_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v115_r0 : BitVec 1 := Scalar.cmpi .ne v80_r0 v86_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg5_r0 : BitVec 32 := Scf.iv v42_r0 c1_i32_36_r0 k0_t2
  let c0_i32_58_r0 : BitVec 32 := 0#32
  let v77_r0 : BitVec 1 := Scalar.cmpi .eq arg5_r0 c0_i32_58_r0
  let v116_r0 : BitVec 1 := Scalar.ori v115_r0 v77_r0
  let c0_i32_79_r0 : BitVec 32 := 0#32
  let v117_r0 : BitVec 1 := Scalar.cmpi .sge arg5_r0 c0_i32_79_r0
  let v118_r0 : BitVec 1 := Scalar.andi v116_r0 v117_r0
  let v119_r0 : BitVec 32 := Scalar.extui v118_r0
  let c0_i32_80_r0 : BitVec 32 := 0#32
  let v120_r0 : BitVec 1 := Scalar.cmpi .ne v119_r0 c0_i32_80_r0
  v120_r0

def k0_off22 (i : grid0.Coords) (arg10_r0 : BitVec 32) : Fin 2 → Nat :=
  let c0_i32_104_r0 : BitVec 32 := 0#32
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let v163_r0 : BitVec 32 := Scalar.muli c128_i32_r0 v80_r0
  ![0, v163_r0.toNat]
def k0_off23 (arg7_r0 : BitVec 32) : Fin 1 → Nat :=
  let c2_i32_101_r0 : BitVec 32 := 2#32
  let v164_r0 : BitVec 32 := Scalar.remui arg7_r0 c2_i32_101_r0
  ![v164_r0.toNat]
def k0_off24 (arg8_r0 : BitVec 32) : Fin 3 → Nat :=
  let c2_i32_84_r0 : BitVec 32 := 2#32
  let v128_r0 : BitVec 32 := Scalar.remui arg8_r0 c2_i32_84_r0
  let c0_i32_101_r2 : BitVec 32 := 0#32
  let c0_i32_102_r2 : BitVec 32 := 0#32
  ![v128_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_83_r0 : BitVec 32 := 2#32
  let v127_r0 : BitVec 32 := Scalar.remui arg7_r0 c2_i32_83_r0
  let c0_i32_103_r2 : BitVec 32 := 0#32
  let c0_i32_104_r2 : BitVec 32 := 0#32
  ![v127_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_101_r0 : BitVec 32 := 2#32
  let v163_r0 : BitVec 32 := Scalar.remui arg8_r0 c2_i32_101_r0
  let c0_i32_102_r0 : BitVec 32 := 0#32
  let c0_i32_103_r0 : BitVec 32 := 0#32
  ![v163_r0.toNat, 0, 0]
def k0_cond14 (i : grid0.Coords) (k0_t2 : Fin (k0_t2_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_65_r0 : BitVec 1 := 1#1
  let c1_i32_64_r0 : BitVec 32 := 1#32
  let v87_r0 : BitVec 32 := Scalar.addi arg10_r0 c1_i32_64_r0
  let v88_r0 : BitVec 32 := Scalar.select true_65_r0 v87_r0 arg10_r0
  let v89_r0 : BitVec 1 := Scalar.cmpi .eq v88_r0 v1
  let c0_i32_66_r0 : BitVec 32 := 0#32
  let v90_r0 : BitVec 32 := Scalar.select v89_r0 c0_i32_66_r0 v88_r0
  let v91_r0 : BitVec 32 := Scalar.addi v90_r0 v6
  let v134_r0 : BitVec 1 := Scalar.cmpi .ne v80_r0 v91_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg5_r0 : BitVec 32 := Scf.iv v42_r0 c1_i32_36_r0 k0_t2
  let c1_i32_57_r0 : BitVec 32 := 1#32
  let v76_r0 : BitVec 32 := Scalar.muli c1_i32_57_r0 v1
  let c1_i32_59_r0 : BitVec 32 := 1#32
  let v78_r0 : BitVec 32 := Scalar.subi v76_r0 c1_i32_59_r0
  let v79_r0 : BitVec 1 := Scalar.cmpi .eq arg5_r0 v78_r0
  let v135_r0 : BitVec 1 := Scalar.ori v134_r0 v79_r0
  let v136_r0 : BitVec 32 := Scalar.extui v135_r0
  let c0_i32_87_r0 : BitVec 32 := 0#32
  let v137_r0 : BitVec 1 := Scalar.cmpi .ne v136_r0 c0_i32_87_r0
  v137_r0

def k0_off27 (i : grid0.Coords) (arg10_r0 : BitVec 32) : Fin 2 → Nat :=
  let c128_i32_r0 : BitVec 32 := 128#32
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let v164_r0 : BitVec 32 := Scalar.muli c128_i32_r0 v80_r0
  let c0_i32_104_r0 : BitVec 32 := 0#32
  ![v164_r0.toNat, 0]
def k0_off28 (arg8_r0 : BitVec 32) : Fin 1 → Nat :=
  let c2_i32_101_r0 : BitVec 32 := 2#32
  let v163_r0 : BitVec 32 := Scalar.remui arg8_r0 c2_i32_101_r0
  ![v163_r0.toNat]
def k0_off29 (arg9_r0 : BitVec 32) : Fin 3 → Nat :=
  let c2_i32_101_r0 : BitVec 32 := 2#32
  let v163_r0 : BitVec 32 := Scalar.remui arg9_r0 c2_i32_101_r0
  let c0_i32_102_r0 : BitVec 32 := 0#32
  let c0_i32_103_r0 : BitVec 32 := 0#32
  ![v163_r0.toNat, 0, 0]
def k0_cond16 (i : grid0.Coords) (k0_t2 : Fin (k0_t2_loop i).trips) (arg10_r0 : BitVec 32) : BitVec 1 :=
  let arg1 : BitVec 32 := BitVec.ofNat 32 (i 1).val
  let c8_i32_0 : BitVec 32 := 8#32
  let v2 : BitVec 1 := Scalar.cmpi .slt arg1 c8_i32_0
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v80_r0 : BitVec 32 := Scalar.addi arg10_r0 v6
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let c1_i32_63_r0 : BitVec 32 := 1#32
  let v84_r0 : BitVec 32 := Scalar.subi v1 c1_i32_63_r0
  let v85_r0 : BitVec 32 := Scalar.select v83_r0 v84_r0 v82_r0
  let v86_r0 : BitVec 32 := Scalar.addi v85_r0 v6
  let v147_r0 : BitVec 1 := Scalar.cmpi .ne v80_r0 v86_r0
  let c0_i32_29_r0 : BitVec 32 := 0#32
  let c1_i32_3 : BitVec 32 := 1#32
  let v7 : BitVec 32 := Scalar.muli c1_i32_3 v1
  let v38_r0 : BitVec 32 := Scalar.subi v7 c0_i32_29_r0
  let c1_i32_34_r0 : BitVec 32 := 1#32
  let v40_r0 : BitVec 32 := Scalar.divsi v38_r0 c1_i32_34_r0
  let v41_r0 : BitVec 32 := Scalar.muli v40_r0 c1_i32_34_r0
  let v42_r0 : BitVec 32 := Scalar.addi c0_i32_29_r0 v41_r0
  let c1_i32_36_r0 : BitVec 32 := 1#32
  let arg5_r0 : BitVec 32 := Scf.iv v42_r0 c1_i32_36_r0 k0_t2
  let c0_i32_58_r0 : BitVec 32 := 0#32
  let v77_r0 : BitVec 1 := Scalar.cmpi .eq arg5_r0 c0_i32_58_r0
  let true_93_r0 : BitVec 1 := 1#1
  let v148_r0 : BitVec 1 := Scalar.xori v77_r0 true_93_r0
  let v149_r0 : BitVec 1 := Scalar.andi v147_r0 v148_r0
  let v150_r0 : BitVec 32 := Scalar.extui v149_r0
  let c0_i32_94_r0 : BitVec 32 := 0#32
  let v151_r0 : BitVec 1 := Scalar.cmpi .ne v150_r0 c0_i32_94_r0
  v151_r0

def k0_off30 (i : grid0.Coords) (arg10_r0 : BitVec 32) : Fin 2 → Nat :=
  let c128_i32_r0 : BitVec 32 := 128#32
  let true_61_r0 : BitVec 1 := 1#1
  let c1_i32_60_r0 : BitVec 32 := 1#32
  let v81_r0 : BitVec 32 := Scalar.subi arg10_r0 c1_i32_60_r0
  let v82_r0 : BitVec 32 := Scalar.select true_61_r0 v81_r0 arg10_r0
  let c_m1_i32_62_r0 : BitVec 32 := 4294967295#32
  let v83_r0 : BitVec 1 := Scalar.cmpi .eq v82_r0 c_m1_i32_62_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let c1_i32_63_r0 : BitVec 32 := 1#32
  let v84_r0 : BitVec 32 := Scalar.subi v1 c1_i32_63_r0
  let v85_r0 : BitVec 32 := Scalar.select v83_r0 v84_r0 v82_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v86_r0 : BitVec 32 := Scalar.addi v85_r0 v6
  let v164_r0 : BitVec 32 := Scalar.muli c128_i32_r0 v86_r0
  let c0_i32_104_r0 : BitVec 32 := 0#32
  ![v164_r0.toNat, 0]
def k0_off31 (arg9_r0 : BitVec 32) : Fin 1 → Nat :=
  let c2_i32_101_r0 : BitVec 32 := 2#32
  let v163_r0 : BitVec 32 := Scalar.remui arg9_r0 c2_i32_101_r0
  ![v163_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x1024.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x1024.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S1024x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S1024x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x1024.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x1024.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S1024x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S1024x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let v7 : BitVec 32 := Scalar.muli c1_i32_3 v1
  let c1_i32_41_r0 : BitVec 32 := 1#32
  let v50_r0 : BitVec 32 := Scalar.subi v7 c1_i32_41_r0
  let c1_i32_42_r0 : BitVec 32 := 1#32
  let v51_r0 : BitVec 32 := Scalar.muli c1_i32_42_r0 v1
  let c1_i32_44_r0 : BitVec 32 := 1#32
  let v53_r0 : BitVec 32 := Scalar.subi v51_r0 c1_i32_44_r0
  let v54_r0 : BitVec 1 := Scalar.cmpi .eq v50_r0 v53_r0
  let v74_r0 : BitVec 32 := Scalar.extui v54_r0
  let c0_i32_56_r0 : BitVec 32 := 0#32
  let v75_r0 : BitVec 1 := Scalar.cmpi .ne v74_r0 c0_i32_56_r0
  v75_r0

def k0_off32 (v44_3_r0 : BitVec 32) : Fin 3 → Nat :=
  let c2_i32_r0 : BitVec 32 := 2#32
  let v76_r0 : BitVec 32 := Scalar.remui v44_3_r0 c2_i32_r0
  let c0_i32_57_r0 : BitVec 32 := 0#32
  let c0_i32_58_r0 : BitVec 32 := 0#32
  ![v76_r0.toNat, 0, 0]

def k0_off33 (i : grid0.Coords) (v44_4_r0 : BitVec 32) : Fin 2 → Nat :=
  let c128_i32_r0 : BitVec 32 := 128#32
  let true_38_r0 : BitVec 1 := 1#1
  let c1_i32_37_r0 : BitVec 32 := 1#32
  let v45_r0 : BitVec 32 := Scalar.subi v44_4_r0 c1_i32_37_r0
  let v46_r0 : BitVec 32 := Scalar.select true_38_r0 v45_r0 v44_4_r0
  let c_m1_i32_39_r0 : BitVec 32 := 4294967295#32
  let v47_r0 : BitVec 1 := Scalar.cmpi .eq v46_r0 c_m1_i32_39_r0
  let arg1 : BitVec 32 := BitVec.ofNat 32 (i 1).val
  let c8_i32 : BitVec 32 := 8#32
  let v0 : BitVec 1 := Scalar.cmpi .slt arg1 c8_i32
  let c1_i32 : BitVec 32 := 1#32
  let c0_i32 : BitVec 32 := 0#32
  let v1 : BitVec 32 := Scalar.select v0 c1_i32 c0_i32
  let c1_i32_40_r0 : BitVec 32 := 1#32
  let v48_r0 : BitVec 32 := Scalar.subi v1 c1_i32_40_r0
  let v49_r0 : BitVec 32 := Scalar.select v47_r0 v48_r0 v46_r0
  let c8_i32_0 : BitVec 32 := 8#32
  let v2 : BitVec 1 := Scalar.cmpi .slt arg1 c8_i32_0
  let v3 : BitVec 32 := Scalar.muli arg1 v1
  let c0_i32_1 : BitVec 32 := 0#32
  let v4 : BitVec 32 := Scalar.muli arg1 c0_i32_1
  let c8_i32_2 : BitVec 32 := 8#32
  let v5 : BitVec 32 := Scalar.addi v4 c8_i32_2
  let v6 : BitVec 32 := Scalar.select v2 v3 v5
  let v55_r0 : BitVec 32 := Scalar.addi v49_r0 v6
  let v77_r0 : BitVec 32 := Scalar.muli c128_i32_r0 v55_r0
  let c0_i32_59_r0 : BitVec 32 := 0#32
  ![v77_r0.toNat, 0]

def k0_chk8 (i : grid0.Coords) (v44_4_r0 : BitVec 32) : Prop :=
  (∀ (k0_h1 : k0_cond1 i = 1#1), ∀ (k0_h18 : k0_cond18 i = 1#1), ∀ a, (k0_off33 i v44_4_r0) a + S128x128.size a ≤ S1024x128.size a)
theorem k0_off33_inb : ∀ (i : grid0.Coords) (v44_4_r0 : BitVec 32) (k0_hw8 : k0_chk8 i v44_4_r0), ∀ (k0_h1 : k0_cond1 i = 1#1), ∀ (k0_h18 : k0_cond18 i = 1#1), ∀ a, (k0_off33 i v44_4_r0) a + S128x128.size a ≤ S1024x128.size a := fun i v44_4_r0 k0_hw8 k0_h1 k0_h18 => k0_hw8 k0_h1 k0_h18

def k0_off34 (v44_3_r0 : BitVec 32) : Fin 1 → Nat :=
  let c2_i32_r0 : BitVec 32 := 2#32
  let v76_r0 : BitVec 32 := Scalar.remui v44_3_r0 c2_i32_r0
  ![v76_r0.toNat]
def k0_off35 (v44_3_r0 : BitVec 32) : Fin 3 → Nat :=
  let c2_i32_r0 : BitVec 32 := 2#32
  let v76_r0 : BitVec 32 := Scalar.remui v44_3_r0 c2_i32_r0
  let c0_i32_61_r0 : BitVec 32 := 0#32
  let c0_i32_62_r0 : BitVec 32 := 0#32
  ![v76_r0.toNat, 0, 0]

def k0_chk7 (i : grid0.Coords) (v44_3_r0 : BitVec 32) : Prop :=
  (∀ (k0_h1 : k0_cond1 i = 1#1), ∀ (k0_h18 : k0_cond18 i = 1#1), ∀ a, (k0_off32 v44_3_r0) a + S1x128x128.size a ≤ S2x128x128.size a) ∧
  (∀ (k0_h1 : k0_cond1 i = 1#1), ∀ (k0_h18 : k0_cond18 i = 1#1), ∀ a, (k0_off34 v44_3_r0) a + S1.size a ≤ S2.size a) ∧
  (∀ (k0_h1 : k0_cond1 i = 1#1), ∀ (k0_h18 : k0_cond18 i = 1#1), ∀ a, (k0_off35 v44_3_r0) a + S1x128x128.size a ≤ S2x128x128.size a)
theorem k0_off32_inb : ∀ (i : grid0.Coords) (v44_3_r0 : BitVec 32) (k0_hw7 : k0_chk7 i v44_3_r0), ∀ (k0_h1 : k0_cond1 i = 1#1), ∀ (k0_h18 : k0_cond18 i = 1#1), ∀ a, (k0_off32 v44_3_r0) a + S1x128x128.size a ≤ S2x128x128.size a := fun i v44_3_r0 k0_hw7 k0_h1 k0_h18 => k0_hw7.1 k0_h1 k0_h18
theorem k0_off34_inb : ∀ (i : grid0.Coords) (v44_3_r0 : BitVec 32) (k0_hw7 : k0_chk7 i v44_3_r0), ∀ (k0_h1 : k0_cond1 i = 1#1), ∀ (k0_h18 : k0_cond18 i = 1#1), ∀ a, (k0_off34 v44_3_r0) a + S1.size a ≤ S2.size a := fun i v44_3_r0 k0_hw7 k0_h1 k0_h18 => k0_hw7.2.1 k0_h1 k0_h18
theorem k0_off35_inb : ∀ (i : grid0.Coords) (v44_3_r0 : BitVec 32) (k0_hw7 : k0_chk7 i v44_3_r0), ∀ (k0_h1 : k0_cond1 i = 1#1), ∀ (k0_h18 : k0_cond18 i = 1#1), ∀ a, (k0_off35 v44_3_r0) a + S1x128x128.size a ≤ S2x128x128.size a := fun i v44_3_r0 k0_hw7 k0_h1 k0_h18 => k0_hw7.2.2 k0_h1 k0_h18

abbrev grid1 : Pipeline.Grid := ⟨1, ![26], ![false]⟩

def k1_cond2 (i : grid1.Coords) : BitVec 1 :=
  let arg0 : BitVec 32 := BitVec.ofNat 32 (i 0).val
  let c25_i32_36 : BitVec 32 := 25#32
  let v65 : BitVec 1 := Scalar.cmpi .eq arg0 c25_i32_36
  let v66 : BitVec 32 := Scalar.extui v65
  let c0_i32_37 : BitVec 32 := 0#32
  let v67 : BitVec 1 := Scalar.cmpi .ne v66 c0_i32_37
  v67

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x128 : Shape := ⟨2, ![1024, 128]⟩
abbrev S1024 : Shape := ⟨1, ![1024]⟩
abbrev S100000x128 : Shape := ⟨2, ![100000, 128]⟩
abbrev S128x100000 : Shape := ⟨2, ![128, 100000]⟩
abbrev S1024x100000 : Shape := ⟨2, ![1024, 100000]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S1024, .i32⟩
  | .hbm, ⟨3, _⟩ => ⟨S1024, .i32⟩
  | .hbm, ⟨4, _⟩ => ⟨S100000x128, .f32⟩
  | .hbm, ⟨5, _⟩ => ⟨S128x100000, .f32⟩
  | .hbm, ⟨6, _⟩ => ⟨S1024x100000, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x100000, .f32⟩
  | .hbm, ⟨12, _⟩ => ⟨S1024x100000, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024x1, .f32⟩
  | .hbm, ⟨19, _⟩ => ⟨S1024x100000, .f32⟩
  | .hbm, ⟨20, _⟩ => ⟨S1024x100000, .f32⟩
  | .hbm, ⟨21, _⟩ => ⟨S1024x100000, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x100000, .f32⟩
  | .hbm, ⟨27, _⟩ => ⟨S1024x100000, .f32⟩
  | .hbm, ⟨28, _⟩ => ⟨S1024x1, .i32⟩
  | .hbm, ⟨29, _⟩ => ⟨S_, .i32⟩
  | .hbm, ⟨30, _⟩ => ⟨S1024x1, .i32⟩
  | .hbm, ⟨31, _⟩ => ⟨S1024x1, .i1⟩
  | .hbm, ⟨32, _⟩ => ⟨S_, .i32⟩
  | .hbm, ⟨33, _⟩ => ⟨S1024x1, .i32⟩
  | .hbm, ⟨34, _⟩ => ⟨S1024x1, .i32⟩
  | .hbm, ⟨35, _⟩ => ⟨S1024x1, .i32⟩
  | .hbm, ⟨36, _⟩ => ⟨S1024x1x1, .i32⟩
  | .hbm, ⟨37, _⟩ => ⟨S1, .i32⟩
  | .hbm, ⟨38, _⟩ => ⟨S_, .i32⟩
  | .hbm, ⟨39, _⟩ => ⟨S1024x1x1, .i32⟩
  | .hbm, ⟨40, _⟩ => ⟨S1024x1x1, .i1⟩
  | .hbm, ⟨41, _⟩ => ⟨S1x1x1, .i32⟩
  | .hbm, ⟨42, _⟩ => ⟨S1024x1x1, .i32⟩
  | .hbm, ⟨43, _⟩ => ⟨S1024x1x1, .i1⟩
  | .hbm, ⟨44, _⟩ => ⟨S1024x1x1, .i1⟩
  | .hbm, ⟨45, _⟩ => ⟨S_, .i1⟩
  | .hbm, ⟨46, _⟩ => ⟨S1024x1, .i1⟩
  | .hbm, ⟨47, _⟩ => ⟨S1024x1, .f32⟩
  | .hbm, ⟨48, _⟩ => ⟨S_, .f32⟩
  | .hbm, ⟨49, _⟩ => ⟨S1024x1, .f32⟩
  | .hbm, ⟨50, _⟩ => ⟨S1024x1, .f32⟩
  | .hbm, ⟨51, _⟩ => ⟨S1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_call0_cst_0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_1 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_v6 : Ref sig .tc := ⟨.hbm, 27, rfl⟩
abbrev main_v7 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v8 : Ref sig .tc := ⟨.hbm, 50, rfl⟩
abbrev main_v9 : Ref sig .tc := ⟨.hbm, 51, rfl⟩
abbrev main_cst_1 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩

abbrev nD : Nat := 1
abbrev τ : Topo := Topo.v7x

variable {F : FTy → Type} [FloatOps F]
-- ==== Proof.ScCommon.lean ====
/-
  The gather on the SparseCores: names, shares and the payloads of the call.

  Eight tiles of each of the two SparseCores run the pipeline: tile `w` fetches block `w` of the index row, gathers
  those 128 rows of the table by one indirect transfer, and writes them to rows `128 w … 128 w + 127` of the
  result. The tile of the other SparseCore with the same number writes the same rows with the same values, so the
  result array is shared between the two cores: it is held in write mode (Lib/WriteMode.lean), each core with half
  the share, every element's target the gathered value.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WriteMode
public import Idealize.ShloMosaic.Lib.Tactic
public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the write-mode cells, the transfers' counters -/

abbrev UH : Type := URounds (GSem nD τ sig) ℕ
abbrev UP : Type := URounds (GSem nD τ sig) Unit
variable (F) in
abbrev UW : Type := WmRA nD τ sig (Elt F)
variable (F) in
abbrev UU : Type := UH × (UP × (UW F × Counters))

local notation "𝕄" => MT nD τ sig (HIx 1) (Elt F) ℕ (UU F) ℕ

abbrev EH : Emb UH (MT nD τ sig (HIx 1) (Elt F) ℕ (UU F) ℕ) := embL
/-- The pipeline's rounds in the algebra. -/
def EP : Emb UP (MT nD τ sig (HIx 1) (Elt F) ℕ (UU F) ℕ) :=
  ((Emb.inl : Emb UP (UP × (UW F × Counters))).trans (Emb.inr : Emb _ (UU F))).trans (uEmb (nD := nD) (sig := sig) (Ix := HIx 1) (Val := Elt F) (Name := ℕ) (U := UU F) (Lvl := ℕ)).toEmb
/-- The write-mode cells in the algebra. -/
abbrev emb : UEmb (UW F) (UU F) := ((UEmb.inl : UEmb (UW F) (UW F × Counters)).trans (UEmb.inr : UEmb _ (UP × (UW F × Counters)))).trans UEmb.inr

instance EP_landsIn : (EP (F := F)).LandsIn (upEmb : UEmb _ 𝕄) := by unfold EP; infer_instance

local notation:60 ℓ " ⇝[" I "]{" q "} " f:max " ⇒ " g:max " @ " W:max => willBeTo emb ℓ I q f g W

/-! ## The buffers -/

abbrev xLoc (d : Dev nD) : Loc nD τ sig := (SparseCore.T d).loc main_arg4
abbrev iLoc (d : Dev nD) : Loc nD τ sig := (SparseCore.T d).loc main_v0
abbrev oLoc (d : Dev nD) : Loc nD τ sig := (SparseCore.T d).loc main_v1

/-- The elements of the result that tile `i` writes: rows `128 i … 128 i + 127`, none when `i` is 8 or more. -/
def oRow (d : Dev nD) (i : Fin 16) : Finset (Idx (oLoc d)) := Finset.univ.filter fun x : S1024x128.Idx => (x 0).val / 128 = i.val

theorem oRow_disjoint (d : Dev nD) : ∀ i ∈ (Finset.univ : Finset (Fin 16)), ∀ j ∈ (Finset.univ : Finset (Fin 16)), i ≠ j → Disjoint (oRow d i) (oRow d j) := by
  intro i _ j _ h
  refine Finset.disjoint_left.mpr fun x hx hy => h (Fin.ext ?_)
  exact (Finset.mem_filter.mp hx).2.symm.trans (Finset.mem_filter.mp hy).2

theorem oRow_cover (d : Dev nD) : (Finset.univ : Finset (Fin 16)).biUnion (oRow d) = Finset.univ := by
  refine Finset.eq_univ_of_forall fun x => Finset.mem_biUnion.mpr ?_
  have hx : ((x : S1024x128.Idx) 0).val < 1024 := (x 0).isLt
  exact ⟨⟨((x : S1024x128.Idx) 0).val / 128, by omega⟩, Finset.mem_univ _, Finset.mem_filter.mpr ⟨Finset.mem_univ _, rfl⟩⟩

/-! ## Shares: each core a half, each tile a sixteenth of its core's -/

/-- The two cores' halves. -/
def half (c : Fin 2) : PosShare TreeShare := if c = 0 then fullShare.left else fullShare.right

/-- Leaf `i` of the depth-`n` halving of share `q`, by the binary digits of `i`, the lowest first. -/
def leaf : ℕ → PosShare TreeShare → ℕ → PosShare TreeShare
  | 0, q, _ => q
  | n + 1, q, i => leaf n (if i % 2 = 0 then q.left else q.right) (i / 2)

/-- Twice a number, and twice a number and one. -/
def dbl (r : ℕ) : ℕ ↪ ℕ := ⟨fun i => 2 * i + r, fun a b h => by simpa using h⟩
theorem dbl_apply (r i : ℕ) : dbl r i = 2 * i + r := rfl

/-- A points-to at a share is its leaves' at once. -/
theorem pts_leaves {ℓ : Loc nD τ sig} (I : Finset (Idx ℓ)) (f : Buf (Elt F) ℓ) :
    ∀ (n : ℕ) (q : PosShare TreeShare), (ℓ ↦[I]{q} f : sProp 𝕄) = bigSep (Finset.range (2 ^ n)) fun i => ℓ ↦[I]{leaf n q i} f
  | 0, q => by rw [pow_zero, Finset.range_one, bigSep_singleton]; rfl
  | n + 1, q => by
    have hev : (Finset.range (2 ^ (n + 1))) = (Finset.range (2 ^ n)).map (dbl 0) ∪ (Finset.range (2 ^ n)).map (dbl 1) := by
      ext x
      simp only [Finset.mem_union, Finset.mem_map, Finset.mem_range, dbl_apply, pow_succ]
      constructor
      · intro h
        rcases Nat.mod_two_eq_zero_or_one x with e | e
        · exact .inl ⟨x / 2, by omega, by omega⟩
        · exact .inr ⟨x / 2, by omega, by omega⟩
      · rintro (⟨y, hy, rfl⟩ | ⟨y, hy, rfl⟩) <;> omega
    have hdis : Disjoint ((Finset.range (2 ^ n)).map (dbl 0)) ((Finset.range (2 ^ n)).map (dbl 1)) := by
      refine Finset.disjoint_left.mpr fun x hx hy => ?_
      simp only [Finset.mem_map, dbl_apply] at hx hy
      obtain ⟨a, -, rfl⟩ := hx; obtain ⟨b, -, h⟩ := hy; omega
    rw [BI.Entails.antisymm (pointsTo_share (PosShare.mem_left_op_right q)).1 (pointsTo_share (PosShare.mem_left_op_right q)).2,
      pts_leaves I f n q.left, pts_leaves I f n q.right, hev, SparseCore.bigSep_union' hdis, bigSep_map, bigSep_map]
    congr 1 <;> refine bigSep_congr fun i _ => ?_
    · show _ = (ℓ ↦[I]{leaf (n + 1) q (2 * i + 0)} f : sProp 𝕄)
      simp [leaf]
    · have h : (2 * i + 1) % 2 = 1 := by omega
      have h' : (2 * i + 1) / 2 = i := by omega
      show _ = (ℓ ↦[I]{leaf (n + 1) q (2 * i + 1)} f : sProp 𝕄)
      simp [leaf, h, h']

/-- The same over the sixteen tiles. -/
theorem pts_tiles {ℓ : Loc nD τ sig} (I : Finset (Idx ℓ)) (f : Buf (Elt F) ℓ) (q : PosShare TreeShare) :
    (ℓ ↦[I]{q} f : sProp 𝕄) = bigSep Finset.univ fun i : Fin 16 => ℓ ↦[I]{leaf 4 q i.val} f := by
  rw [pts_leaves I f 4 q, show Finset.range (2 ^ 4) = (Finset.univ : Finset (Fin 16)).map Fin.valEmbedding by decide, bigSep_map]
  rfl

/-- A points-to at the full share is the two cores' halves. -/
theorem pts_halves {ℓ : Loc nD τ sig} (I : Finset (Idx ℓ)) (f : Buf (Elt F) ℓ) :
    (ℓ ↦[I]{fullShare} f : sProp 𝕄) = iprop((ℓ ↦[I]{half 0} f) ∗ ℓ ↦[I]{half 1} f) :=
  BI.Entails.antisymm (pointsTo_share (PosShare.mem_left_op_right _)).1 (pointsTo_share (PosShare.mem_left_op_right _)).2

/-! ## Write mode: pieces and halves -/

/-- A write-mode assertion over disjoint pieces is the pieces'. -/
theorem wb_biUnion {ℓ : Loc nD τ sig} {ι : Type} [DecidableEq ι] (J : ι → Finset (Idx ℓ)) (q : PosShare TreeShare) (f : Buf (Elt F) ℓ) (g : Tgt (Elt F) ℓ)
    (W : Finset (Idx ℓ)) (s : Finset ι) (hd : ∀ i ∈ s, ∀ j ∈ s, i ≠ j → Disjoint (J i) (J j)) :
    (ℓ ⇝[s.biUnion J]{q} f ⇒ g @ W : sProp 𝕄) = bigSep s fun i => ℓ ⇝[J i]{q} f ⇒ g @ W := by
  induction s using Finset.induction_on with
  | empty =>
    rw [Finset.biUnion_empty, bigSep_empty]
    exact BI.Region.held_empty (υ := wmEmb (HIx 1) (emb (F := F)))
  | insert a s ha ih =>
    have hdis : Disjoint (J a) (s.biUnion J) := (Finset.disjoint_biUnion_right _ _ _).mpr fun j hj =>
      hd a (Finset.mem_insert_self _ _) j (Finset.mem_insert_of_mem hj) fun e => ha (e ▸ hj)
    rw [Finset.biUnion_insert, SparseCore.bigSep_insert' ha,
      ← ih fun i hi j hj => hd i (Finset.mem_insert_of_mem hi) j (Finset.mem_insert_of_mem hj)]
    exact BI.Entails.antisymm (BI.Region.held_union hdis).1 (BI.Region.held_union hdis).2

local instance halves_isOp : IsOp fullShare (half 0) (half 1) := ⟨PosShare.mem_left_op_right fullShare⟩

/-- A write-mode assertion at the full share is the two cores' halves. -/
theorem wb_split {ℓ : Loc nD τ sig} (I : Finset (Idx ℓ)) (f : Buf (Elt F) ℓ) (g : Tgt (Elt F) ℓ) (W : Finset (Idx ℓ)) :
    (ℓ ⇝[I]{fullShare} f ⇒ g @ W : sProp 𝕄) ⊢ iprop((ℓ ⇝[I]{half 0} f ⇒ g @ W) ∗ ℓ ⇝[I]{half 1} f ⇒ g @ W) := by
  iintro H
  icases H with ⟨H0, H1⟩
  isplitl [H0] <;> iassumption

/-- Two halves with the same marks join. -/
theorem wb_join {ℓ : Loc nD τ sig} (I : Finset (Idx ℓ)) (f : Buf (Elt F) ℓ) (g : Tgt (Elt F) ℓ) (W : Finset (Idx ℓ)) :
    (iprop((ℓ ⇝[I]{half 0} f ⇒ g @ W) ∗ ℓ ⇝[I]{half 1} f ⇒ g @ W) : sProp 𝕄) ⊢ ℓ ⇝[I]{fullShare} f ⇒ g @ W := by
  iintro ⟨H0, H1⟩
  icombine H0 H1 as H
  rw [Finset.union_self]
  iexact H

end Cert.KernelIdeal.Run

end
-- ==== Proof.ScStraight.lean ====
/-
  The tile's program, straight. On a tile with a block the pipeline's two loops make one trip and none, every
  branch is decided by the tile's number, and what is left is a line of six transfers' operations: fetch the block of
  the index row, wait, gather the rows, wait, write them out, wait.
-/
module

public import proofs.«01_k».proof.Proof.ScCommon
public import Idealize.ShloMosaic.Lib.Pipeline.TableIdle

@[expose] public section

noncomputable section

namespace Cert.KernelIdeal.Run

open Cert.KernelIdeal Cert.KernelIdeal.Gen
open Idealize.ShloMosaic Idealize.SL Idealize.SL.Sem

variable {F : FTy → Type} [FloatOps F] [Named F]

/-! ## What the words of the control flow come to -/

/-- The first loop's trip. -/
theorem trips1 : ∀ i : grid0.Coords, k0_cond1 i = 1#1 → (k0_t1_loop i).trips = 1 := by decide +kernel
theorem trips2 : ∀ i : grid0.Coords, k0_cond1 i = 1#1 → (k0_t2_loop i).trips = 0 := by decide +kernel

/-- The one trip of the first loop. -/
def trip (i : grid0.Coords) (h1 : k0_cond1 i = 1#1) : Fin (k0_t1_loop i).trips := ⟨0, by rw [trips1 i h1]; exact Nat.one_pos⟩

theorem cond1_iff : ∀ i : grid0.Coords, k0_cond1 i = 1#1 ↔ (i 1).val < 8 := by decide +kernel
theorem cond2 : ∀ i : grid0.Coords, k0_cond1 i = 1#1 → k0_cond2 i = 1#1 := by decide +kernel
theorem cond3 : ∀ i : grid0.Coords, k0_cond1 i = 1#1 → ∀ t : Fin (k0_t1_loop i).trips, ¬ k0_cond3 i t 0#32 = 1#1 := by decide +kernel
theorem cond4 : ∀ i : grid0.Coords, k0_cond1 i = 1#1 → ∀ t : Fin (k0_t1_loop i).trips, k0_cond4 i t 0#32 = 1#1 := by decide +kernel
theorem cond7 : ∀ i : grid0.Coords, k0_cond1 i = 1#1 → ∀ t : Fin (k0_t1_loop i).trips, k0_cond7 i t 0#32 = 1#1 := by decide +kernel
theorem cond9 : ∀ i : grid0.Coords, k0_cond1 i = 1#1 → ∀ t : Fin (k0_t1_loop i).trips, ¬ k0_cond9 i t 0#32 = 1#1 := by decide +kernel
theorem cond18 : ∀ i : grid0.Coords, k0_cond1 i = 1#1 → k0_cond18 i = 1#1 := by decide +kernel
/-- The count of the tile's blocks, as the kernel computes it. -/
theorem count_one : ∀ i : grid0.Coords, k0_cond1 i = 1#1 → Scalar.select (Scalar.cmpi .slt (BitVec.ofNat 32 (i 1).val) 8#32) 1#32 0#32 = 1#32 := by
  decide +kernel
/-- Its first block. -/
theorem first_block : ∀ i : grid0.Coords, k0_cond1 i = 1#1 →
    let v6 := Scalar.select (Scalar.cmpi .slt (BitVec.ofNat 32 (i 1).val) 8#32) (Scalar.muli (BitVec.ofNat 32 (i 1).val) 1#32)
      (Scalar.addi (Scalar.muli (BitVec.ofNat 32 (i 1).val) 0#32) 8#32)
    v6 = 0#32 ∨ v6 = 1#32 ∨ v6 = 2#32 ∨ v6 = 3#32 ∨ v6 = 4#32 ∨ v6 = 5#32 ∨ v6 = 6#32 ∨ v6 = 7#32 := by decide +kernel
theorem off2 : ∀ i : grid0.Coords, k0_cond1 i = 1#1 → k0_off2 i = ![0, 128 * (i 1).val] := by decide +kernel
theorem off8 : ∀ i : grid0.Coords, k0_cond1 i = 1#1 → k0_off8 i 0#32 = ![0, 128 * (i 1).val] := by decide +kernel
theorem off13 : ∀ i : grid0.Coords, k0_cond1 i = 1#1 → k0_off13 i 0#32 = ![128 * (i 1).val, 0] := by decide +kernel
theorem off33 : ∀ i : grid0.Coords, k0_cond1 i = 1#1 → k0_off33 i 0#32 = ![128 * (i 1).val, 0] := by decide +kernel

theorem chk1 : ∀ i : grid0.Coords, k0_cond1 i = 1#1 → ∀ t : Fin (k0_t1_loop i).trips, k0_chk1 i t 1#32 0#32 0#32 0#32 0#32 := by decide +kernel
theorem chk2 (i : grid0.Coords) (t : Fin (k0_t1_loop i).trips) : k0_chk2 i t 0#32 := fun _ => by decide +kernel
theorem chk3 (i : grid0.Coords) (t : Fin (k0_t1_loop i).trips) : k0_chk3 i t 0#32 := fun _ => by decide +kernel
theorem chk8 : ∀ i : grid0.Coords, k0_chk8 i 0#32 := by decide +kernel
theorem chk7 (i : grid0.Coords) : k0_chk7 i 0#32 := ⟨fun _ _ => by decide +kernel, fun _ _ => by decide +kernel, fun _ _ => by decide +kernel⟩

/-! ## The line -/

section Line

variable (i : grid0.Coords)
  (arg2 : Memref sig .scVector .hbm S100000x128 .f32) (arg3 : Memref sig .scVector .hbm S1x1024 .i32)
  (arg4 : Memref sig .scVector .hbm S1024x128 .f32) (ibuf : Memref sig .scVector .vmem S2x1x128 .i32)
  (obuf : Memref sig .scVector .vmem S2x128x128 .f32)

/-- The tile's block of the index row, its block of the result, the two staging slots, and the table and the list as
    the indirect transfer addresses them. -/
abbrev srcBlk (o : Fin 2 → ℕ) (h : ∀ a, o a + S1x128.size a ≤ S1x1024.size a) : Memref sig .scVector .hbm S1x128 .i32 :=
  arg3.slice (Rect.unit (s := S1x1024) o S1x128.size h) (fun _ => rfl)
abbrev dstBlk (o : Fin 2 → ℕ) (h : ∀ a, o a + S128x128.size a ≤ S1024x128.size a) : Memref sig .scVector .hbm S128x128 .f32 :=
  arg4.slice (Rect.unit (s := S1024x128) o S128x128.size h) (fun _ => rfl)
abbrev idxSlot : Memref sig .scVector .vmem S1x128 .i32 :=
  (ibuf.slice (Rect.unit (s := S2x1x128) ![0, 0, 0] S1x1x128.size (by decide)) (fun _ => rfl)).squeeze S1x128 squeezes_S1x1x128_S1x128
abbrev rowSlot : Memref sig .scVector .vmem S128x128 .f32 :=
  (obuf.slice (Rect.unit (s := S2x128x128) ![0, 0, 0] S1x128x128.size (by decide)) (fun _ => rfl)).squeeze S128x128 squeezes_S1x128x128_S128x128
abbrev idxList : Memref sig .scVector .vmem S128 .i32 :=
  ((idxSlot ibuf).slice (Rect.unit (s := S1x128) ![0, 0] S1x128.size inb_S1x128_S1x128_0_0) (fun _ => rfl)).squeeze S128 squeezes_S1x128_S128
abbrev tblAll : Memref sig .scVector .hbm S100000x128 .f32 :=
  arg2.slice (Rect.unit (s := S100000x128) ![0, 0] S100000x128.size inb_S100000x128_S100000x128_0_0) (fun _ => rfl)

theorem inb2 (h1 : k0_cond1 i = 1#1) : ∀ a, k0_off2 i a + S1x128.size a ≤ S1x1024.size a := k0_off2_inb i h1 (cond2 i h1)
theorem inb8 (h1 : k0_cond1 i = 1#1) : ∀ a, k0_off8 i 0#32 a + S1x128.size a ≤ S1x1024.size a :=
  k0_off8_inb i (trip i h1) _ _ _ _ _ (chk1 i h1 _) h1 (cond4 i h1 _)
theorem inb13 (h1 : k0_cond1 i = 1#1) : ∀ a, k0_off13 i 0#32 a + S128x128.size a ≤ S1024x128.size a :=
  k0_off13_inb i (trip i h1) _ _ _ _ _ (chk1 i h1 _) h1 (cond7 i h1 _)
theorem inb33 (h1 : k0_cond1 i = 1#1) : ∀ a, k0_off33 i 0#32 a + S128x128.size a ≤ S1024x128.size a :=
  k0_off33_inb i _ (chk8 i) h1 (cond18 i h1)

/-- The first semaphore of a pair. -/
abbrev sem0 (v : DmaSems sig S2) : DmaSem sig := ((v.slice (Rect.unit (s := S2) ![0] S1.size (by decide))).squeeze S_ squeezes_S1_S_).sem

/-- The line. -/
def line (h1 : k0_cond1 i = 1#1) (v8 v9 : DmaSems sig S2) (v163 : DmaSems sig S_) :
    Prog (TpuEff nD τ sig (Elt F) Λ₀ (.scVector ((i 0).castLE hcore0) ((i 1).castLE hsub0))) PUnit := do
  Prog.lift (.enqueueDma (srcBlk arg3 (k0_off2 i) (inb2 i h1)) (.here (idxSlot ibuf)) (.dma (sem0 v8)) (View.wordExact_bits rfl) ((View.wordExact_bits rfl).reshape _ _) ⟨Or.inl rfl, trivial⟩)
  let _ ← Prog.lift (TpuEff.assume (k0_chk3 i (trip i h1) 0#32) (k0_chk3.dec _ _ _))
  let _ ← Prog.lift (TpuEff.assume (k0_chk2 i (trip i h1) 0#32) (k0_chk2.dec _ _ _))
  let _ ← Prog.lift (TpuEff.assume (k0_chk1 i (trip i h1) 1#32 0#32 0#32 0#32 0#32) (k0_chk1.dec _ _ _ _ _ _ _))
  Prog.lift (.waitDma2 (sem0 v8) (srcBlk arg3 (k0_off8 i 0#32) (inb8 i h1)) (idxSlot ibuf) (View.wordExact_bits rfl) ((View.wordExact_bits rfl).reshape _ _))
  SparseCore.enqueueIndirectGather rfl (tblAll arg2) (rowSlot obuf) gathers_S100000x128_S128x128 (idxList ibuf) rfl v163.sem (View.wordExact_bits rfl) rfl (Or.inl rfl)
  SparseCore.waitIndirectGather v163.sem (tblAll arg2) (rowSlot obuf) (View.wordExact_bits rfl) ((View.wordExact_bits rfl).reshape _ _)
  Prog.lift (.enqueueDma (rowSlot obuf) (.here (dstBlk arg4 (k0_off13 i 0#32) (inb13 i h1))) (.dma (sem0 v9)) ((View.wordExact_bits rfl).reshape _ _) (View.wordExact_bits rfl) ⟨Or.inl rfl, trivial⟩)
  let _ ← Prog.lift (TpuEff.assume (k0_chk8 i 0#32) (k0_chk8.dec _ _))
  let _ ← Prog.lift (TpuEff.assume (k0_chk7 i 0#32) (k0_chk7.dec _ _))
  Prog.lift (.waitDma2 (sem0 v9) (rowSlot obuf) (dstBlk arg4 (k0_off33 i 0#32) (inb33 i h1)) ((View.wordExact_bits rfl).reshape _ _) (View.wordExact_bits rfl))
  pure ⟨⟩

theorem kernel_line (harg2 : arg2.IsWhole) (harg3 : arg3.IsWhole) (harg4 : arg4.IsWhole) (hibuf : ibuf.IsWhole) (hobuf : obuf.IsWhole)
    (v8 v9 : DmaSems sig S2) (v163 v163' : DmaSems sig S_) (h1 : k0_cond1 i = 1#1) :
    cc0_gather_kernel (F := F) i arg2 harg2 arg3 harg3 arg4 harg4 ibuf hibuf v8 obuf hobuf v9 v163 v163'
      = line i arg2 arg3 arg4 ibuf obuf h1 v8 v9 v163 := by
  have hc := count_one i h1
  have hv6 := first_block i h1
  rw [cc0_gather_kernel_eq_skeleton]; unfold cc0_gather_kernel_skel
  simp only [hc]
  rw [dif_pos h1]
  rw [k0_part5_eq_skeleton, k0_part6_eq_skeleton]
  unfold k0_part5_skel k0_part6_skel
  rw [dif_pos (cond2 i h1)]
  generalize Scalar.select (Scalar.cmpi .slt (BitVec.ofNat 32 (i 1).val) 8#32) (Scalar.muli (BitVec.ofNat 32 (i 1).val) 1#32)
    (Scalar.addi (Scalar.muli (BitVec.ofNat 32 (i 1).val) 0#32) 8#32) = v6 at hv6 ⊢
  simp only [Scf.for_trips1 _ _ (trips1 i h1), Scf.for_trips0 _ _ (trips2 i h1), Prog.bind_assoc, dite_eq_ite, ite_self, dif_pos (cond18 i h1)]
  unfold k0_t1_body
  rw [k0_part1_eq_skeleton, k0_part2_eq_skeleton]
  unfold k0_part1_skel k0_part2_skel
  have hw : Scalar.select (Scalar.andi 1#1 (Scalar.cmpi .sgt (Scalar.muli 1#32 1#32) 0#32)) (Scalar.addi 0#32 1#32) 0#32 = 1#32 := by decide
  have hy : Scalar.select (Scalar.cmpi .eq (Scalar.select 1#1 (Scalar.addi 0#32 1#32) 0#32) 1#32) 0#32 (Scalar.select 1#1 (Scalar.addi 0#32 1#32) 0#32) = 0#32 := by decide
  simp only [hw, Prog.bind_assoc, pure_bind, Prog.bind_ret, cond3 i h1, cond4 i h1, cond7 i h1, cond9 i h1, ↓reduceDIte, ite_self,
    hy]
  unfold line
  rcases hv6 with rfl | rfl | rfl | rfl | rfl | rfl | rfl | rfl <;> rfl

end Line

end Cert.KernelIdeal.Run

end
-- ==== Proof.ScTile.lean ====
/-
  The gather on the SparseCores: one tile's run, at a symbolic tile, and the tiles' resources split and joined.
-/
module

public import proofs.«01_k».proof.Proof.ScStraight

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ (UU F) ℕ
local notation:60 ℓ " ⇝[" I "]{" q "} " f:max " ⇒ " g:max " @ " W:max => willBeTo emb ℓ I q f g W

/-! ## The gathered array -/

variable (m : (ℓ : Loc nD τ sig) → Buf (Elt F) ℓ)
variable (fi : (d : Dev nD) → Buf (Elt F) (iLoc d))

/-- Word `b` of the index row. -/
def word (d : Dev nD) (b : Fin 1024) : BitVec 32 := (fi d : S1x1024.Idx → BitVec 32) (Shape.pair (d := ![1, 1024]) (0 : Fin 1) b)

/-- The gathered rows: row `b` is the table's row at word `b`. -/
def G (d : Dev nD) : Buf (Elt F) (oLoc d) := fun x : S1024x128.Idx =>
  (m (xLoc d) : S100000x128.Idx → Elt F .f32) (Shape.pair (d := ![100000, 128]) (⟨(word fi d (x 0)).toNat % 100000, Nat.mod_lt _ (by decide)⟩ : Fin 100000) (x 1))

/-- Its targets. -/
def tgt (d : Dev nD) : Tgt (Elt F) (oLoc d) := fun x => some (G m fi d x)

/-- Every word of the index row names a row of the table. -/
def PreOK : Prop := ∀ d b, (word fi d b).toNat < 100000

/-! ## What the call hands over and takes back -/

/-- A core's part of the call: half of the table, of the index row and of the result in write mode, its elements
    marked `W`. -/
abbrev coreP (d : Dev nD) (c : Fin 2) (W : Finset (Idx (oLoc d))) : sProp 𝕄 :=
  iprop((xLoc d ↦{half c} m (xLoc d)) ∗ (iLoc d ↦{half c} fi d) ∗ oLoc d ⇝[Finset.univ]{half c} (m (oLoc d)) ⇒ (tgt m fi d) @ W)
abbrev stP (d : Dev nD) (c : Fin 2) : sProp 𝕄 := coreP m fi d c ∅
abbrev dnP (d : Dev nD) (c : Fin 2) : sProp 𝕄 := coreP m fi d c Finset.univ
/-- A tile's part: a sixteenth of its core's shares of the table and of the index row, and its rows of the result. -/
abbrev tileP (d : Dev nD) (c : Fin 2) (i : Fin 16) (W : Finset (Idx (oLoc d))) : sProp 𝕄 :=
  iprop((xLoc d ↦{leaf 4 (half c) i.val} m (xLoc d)) ∗ (iLoc d ↦{leaf 4 (half c) i.val} fi d)
    ∗ oLoc d ⇝[oRow d i]{half c} (m (oLoc d)) ⇒ (tgt m fi d) @ W)

/-- The payload of the call, per SparseCore and per tile: the shares of the table and of the index row, and the
    result in write mode, its rows marked written on the way back. -/
def P : (K (F := F)).Pay (nD := nD) (Val := Elt F) (Name := ℕ) (U := UU F) where
  st := fun q d c => match q with | 0 => stP m fi d (Fin.cast nCore_zero c)
  dn := fun q d c => match q with | 0 => dnP m fi d (Fin.cast nCore_zero c)
  go := fun q d c i => match q with | 0 => tileP m fi d (Fin.cast nCore_zero c) (Fin.cast nSub_zero i) ∅
  td := fun q d c i => match q with | 0 => tileP m fi d (Fin.cast nCore_zero c) (Fin.cast nSub_zero i) Finset.univ
  x := fun _ _ => iprop(∃ ι, wmInv emb ι)

instance P_storable : (P (F := F) m fi).IsStorable where
  st q d c := match q with | 0 => (inferInstance : BI.Storable (upEmb : UEmb _ 𝕄) (stP m fi d (Fin.cast nCore_zero c)))
  dn q d c := match q with | 0 => (inferInstance : BI.Storable (upEmb : UEmb _ 𝕄) (dnP m fi d (Fin.cast nCore_zero c)))
  go q d c i := match q with | 0 => (inferInstance : BI.Storable (upEmb : UEmb _ 𝕄) (tileP m fi d (Fin.cast nCore_zero c) (Fin.cast nSub_zero i) ∅))
  td q d c i := match q with | 0 => (inferInstance : BI.Storable (upEmb : UEmb _ 𝕄) (tileP m fi d (Fin.cast nCore_zero c) (Fin.cast nSub_zero i) Finset.univ))

/-! ## A tile's parameters, its cells and buffers -/

abbrev cV (L : grid0.Coords) : Fin τ.nSC := (L 0).castLE hcore0
abbrev jV (L : grid0.Coords) : Fin τ.nSub := (L 1).castLE hsub0
abbrev semA : DmaSem sig := sem0 cc0_scoped1
abbrev semB : DmaSem sig := sem0 cc0_scoped3
abbrev cA (d : Dev nD) (c : Fin τ.nSC) (j : Fin τ.nSub) : GSem nD τ sig := (V d c j, .dma semA)
abbrev cB (d : Dev nD) (c : Fin τ.nSC) (j : Fin τ.nSub) : GSem nD τ sig := (V d c j, .dma semB)
abbrev cG (d : Dev nD) (c : Fin τ.nSC) (j : Fin τ.nSub) : GSem nD τ sig := (V d c j, .dma cc0_scoped4.sem)

/-- The tile's remaining cells, at zero. -/
abbrev semsRest (d : Dev nD) (c : Fin τ.nSC) (j : Fin τ.nSub) : sProp 𝕄 :=
  bigSep ((((ownCells (V d c j)).erase (cA d c j)).erase (cB d c j)).erase (cG d c j)) fun g => semVal g 0

theorem ownSems0_V (d : Dev nD) (c : Fin τ.nSC) (j : Fin τ.nSub) :
    (ownSems0 (V d c j) : sProp 𝕄) = iprop(semVal (cA d c j) 0 ∗ semVal (cB d c j) 0 ∗ semVal (cG d c j) 0 ∗ semsRest d c j) := by
  unfold SparseCore.Cfg.ownSems0
  rw [SparseCore.bigSep_erase' ((mem_ownCells (g := cA d c j)).mpr ⟨rfl, by show (SemLoc.dma semA : SemLoc sig).isScoped .scVector = true; decide⟩),
    SparseCore.bigSep_erase' (Finset.mem_erase.mpr ⟨by simp [cA, cB]; decide,
      (mem_ownCells (g := cB d c j)).mpr ⟨rfl, by show (SemLoc.dma semB : SemLoc sig).isScoped .scVector = true; decide⟩⟩),
    SparseCore.bigSep_erase' (Finset.mem_erase.mpr ⟨by simp [cB, cG]; decide, Finset.mem_erase.mpr ⟨by simp [cA, cG]; decide,
      (mem_ownCells (g := cG d c j)).mpr ⟨rfl, by show (SemLoc.dma cc0_scoped4.sem : SemLoc sig).isScoped .scVector = true; decide⟩⟩⟩)]

/-- The tile's remaining buffers. -/
abbrev bufsRest (d : Dev nD) (c : Fin τ.nSC) (j : Fin τ.nSub) : sProp 𝕄 :=
  bigSep (((ownRefs (τ := τ) (sig := sig) (.scVector c j)).erase ((Proc.scVector c j).devRef cc0_scoped0)).erase ((Proc.scVector c j).devRef cc0_scoped2))
    fun b => iprop(∃ f : Buf (Elt F) (d, b), ((d, b) : Loc nD τ sig) ↦{fullShare} f)

theorem ownBufs_V (d : Dev nD) (c : Fin τ.nSC) (j : Fin τ.nSub) :
    (ownBufs (V d c j) : sProp 𝕄) = iprop((∃ f : Buf (Elt F) ((V d c j).loc cc0_scoped0), (V d c j).loc cc0_scoped0 ↦{fullShare} f)
      ∗ (∃ f : Buf (Elt F) ((V d c j).loc cc0_scoped2), (V d c j).loc cc0_scoped2 ↦{fullShare} f) ∗ bufsRest d c j) := by
  unfold SparseCore.Cfg.ownBufs
  refine (SparseCore.bigSep_erase' (SparseCore.Cfg.mem_ownRefs_of_owner (p := Proc.scVector c j) (b := (Proc.scVector c j).devRef cc0_scoped0) rfl)).trans ?_
  rw [SparseCore.bigSep_erase' (Finset.mem_erase.mpr ⟨fun e => absurd (Proc.devRef_injective _ e) (show (cc0_scoped2 : Ref sig .scVector) ≠ cc0_scoped0 by decide),
      SparseCore.Cfg.mem_ownRefs_of_owner (p := Proc.scVector c j) (b := (Proc.scVector c j).devRef cc0_scoped2) rfl⟩)]

/-! ## The memrefs of the line -/

abbrev tblM : Memref sig .scVector .hbm S100000x128 .f32 := Memref.whole main_arg4_scv
abbrev idxM : Memref sig .scVector .hbm S1x1024 .i32 := Memref.whole main_v0_scv
abbrev outM : Memref sig .scVector .hbm S1024x128 .f32 := Memref.whole main_v1_scv
abbrev ibM : Memref sig .scVector .vmem S2x1x128 .i32 := Memref.whole cc0_scoped0
abbrev obM : Memref sig .scVector .vmem S2x128x128 .f32 := Memref.whole cc0_scoped2

/-- The rows tile `L` writes. -/
theorem dst_set (d : Dev nD) (L : grid0.Coords) (h1 : k0_cond1 L = 1#1) :
    ((dstBlk outM (k0_off13 L 0#32) (inb13 L h1)).view.set : Finset (Idx (oLoc d))) = oRow d (jV L) := by
  have hlt := (cond1_iff L).mp h1
  ext x
  rw [View.set_slice]
  simp only [oRow, Finset.mem_filter, Finset.mem_univ, true_and]
  have e0 : ((x : S1024x128.Idx) 0).val < 1024 := (x 0).isLt
  have e1 : ((x : S1024x128.Idx) 1).val < 128 := (x 1).isLt
  constructor
  · intro hx
    obtain ⟨y, hy, rfl⟩ := Finset.mem_map.mp hx
    have h := (Rect.mem_set_unit.mp hy) 0
    rw [off13 L h1] at h
    change 128 * (L 1).val ≤ (y 0).val ∧ (y 0).val < 128 * (L 1).val + 128 at h
    show (y 0).val / 128 = (L 1).val
    omega
  · intro hx
    refine Finset.mem_map.mpr ⟨x, Rect.mem_set_unit.mpr fun a => ?_, rfl⟩
    rw [off13 L h1]
    change ((x : S1024x128.Idx) 0).val / 128 = (L 1).val at hx
    match a with
    | 0 => show 128 * (L 1).val ≤ ((x : S1024x128.Idx) 0).val ∧ ((x : S1024x128.Idx) 0).val < 128 * (L 1).val + 128; omega
    | 1 => show 0 ≤ ((x : S1024x128.Idx) 1).val ∧ ((x : S1024x128.Idx) 1).val < 0 + 128; omega

/-! ## The words fetched and the rows gathered -/

/-- Entry `y` of the list, in the fetched block. -/
def listAt (y : S128.Idx) : S1x128.Idx := Shape.pair (d := ![1, 128]) (0 : Fin 1) (y 0)

theorem read_list {d : Dev nD} {c : Fin τ.nSC} {j : Fin τ.nSub} (f : Buf (Elt F) ((V d c j).loc cc0_scoped0)) (y : S128.Idx) :
    (idxList ibM).view.read (Elt F) f y = (idxSlot ibM).view.read (Elt F) f (listAt y) := by
  have e : ((Rect.unit (s := S1x128) ![0, 0] S1x128.size inb_S1x128_S1x128_0_0).emb
      (Shape.reshapeEquiv (s := S1x128) (s' := S128) squeezes_S1x128_S128.numel_eq y) : S1x128.Idx) = listAt y := by
    rw [Shape.reshapeEquiv_eq_of_rowMajor (s := S1x128) (s' := S128) squeezes_S1x128_S128.numel_eq (x := y) (y := listAt y)
      (by rw [Shape.rowMajor_val_one, Shape.rowMajor_val_two]; show 0 * 128 + (y 0).val = (y 0).val; omega)]
    funext a
    apply Fin.ext
    match a with
    | 0 => show 0 + 1 * 0 = 0; rfl
    | 1 => show 0 + 1 * (y 0).val = (y 0).val; omega
  exact congrArg ((idxSlot ibM).view.read (Elt F) f) e

/-- The block of the index row at tile `L`'s offset. -/
theorem read_src (d : Dev nD) (L : grid0.Coords) (h1 : k0_cond1 L = 1#1) (y : S128.Idx) :
    (srcBlk idxM (k0_off2 L) (inb2 L h1)).view.read (Elt F) (fi d) (listAt y)
      = word fi d ⟨128 * (L 1).val + (y 0).val, by have := (cond1_iff L).mp h1; have : (y 0).val < 128 := (y 0).isLt; omega⟩ := by
  have e : ((Rect.unit (s := S1x1024) (k0_off2 L) S1x128.size (inb2 L h1)).emb (listAt y) : S1x1024.Idx)
      = Shape.pair (d := ![1, 1024]) (0 : Fin 1) ⟨128 * (L 1).val + (y 0).val, by have := (cond1_iff L).mp h1; have : (y 0).val < 128 := (y 0).isLt; show _ < 1024; omega⟩ := by
    funext a
    apply Fin.ext
    match a with
    | 0 => show k0_off2 L 0 + 1 * 0 = 0; rw [off2 L h1]; rfl
    | 1 => show k0_off2 L 1 + 1 * (y 0).val = 128 * (L 1).val + (y 0).val; rw [off2 L h1]; show 128 * (L 1).val + 1 * (y 0).val = _; omega
  exact congrArg (fi d : S1x1024.Idx → BitVec 32) e

/-- Where tile `L`'s block of the result puts an element of the block. -/
theorem emb_dst (L : grid0.Coords) (h1 : k0_cond1 L = 1#1) (x : S128x128.Idx) :
    ((Rect.unit (s := S1024x128) (k0_off13 L 0#32) S128x128.size (inb13 L h1)).emb x : S1024x128.Idx)
      = Shape.pair (d := ![1024, 128]) (⟨128 * (L 1).val + (x 0).val, by have := (cond1_iff L).mp h1; have : (x 0).val < 128 := (x 0).isLt; omega⟩ : Fin 1024) (x 1) := by
  funext a
  apply Fin.ext
  match a with
  | 0 => show k0_off13 L 0#32 0 + 1 * (x 0).val = 128 * (L 1).val + (x 0).val; rw [off13 L h1]; show 128 * (L 1).val + 1 * (x 0).val = _; omega
  | 1 => show k0_off13 L 0#32 1 + 1 * (x 1).val = (x 1).val; rw [off13 L h1]; show 0 + 1 * (x 1).val = _; omega

/-- The list's words, after the fetch: tile `L`'s block of the index row. -/
theorem list_words (d : Dev nD) (L : grid0.Coords) (h1 : k0_cond1 L = 1#1) (fs : Buf (Elt F) ((V d (cV L) (jV L)).loc cc0_scoped0)) (y : S128.Idx) :
    (idxList ibM).view.read (Elt F) ((idxSlot ibM).view.write (Elt F) fs ((srcBlk idxM (k0_off2 L) (inb2 L h1)).view.read (Elt F) (fi d)) Finset.univ) y
      = word fi d ⟨128 * (L 1).val + (y 0).val, by have := (cond1_iff L).mp h1; have : (y 0).val < 128 := (y 0).isLt; omega⟩ := by
  rw [read_list (d := d) (c := cV L) (j := jV L), View.read_write_univ]
  exact read_src fi d L h1 y

theorem list_inb (hpre : PreOK fi) (d : Dev nD) (L : grid0.Coords) (h1 : k0_cond1 L = 1#1) (fs : Buf (Elt F) ((V d (cV L) (jV L)).loc cc0_scoped0)) :
    ∀ y, ((idxList ibM).view.read (Elt F) ((idxSlot ibM).view.write (Elt F) fs ((srcBlk idxM (k0_off2 L) (inb2 L h1)).view.read (Elt F) (fi d)) Finset.univ) y).toNat
      < S100000x128.size gathers_S100000x128_S128x128.axis := fun y => by
  rw [list_words fi d L h1 fs y]; exact hpre d _

/-- What the tile writes out is what the targets say. -/
theorem rows_admitted (hpre : PreOK fi) (d : Dev nD) (L : grid0.Coords) (h1 : k0_cond1 L = 1#1) (fs : Buf (Elt F) ((V d (cV L) (jV L)).loc cc0_scoped0))
    (fr : Buf (Elt F) ((V d (cV L) (jV L)).loc cc0_scoped2)) :
    (dstBlk outM (k0_off13 L 0#32) (inb13 L h1)).view.Admitted (Elt F) (tgt m fi d)
      ((rowSlot obM).view.read (Elt F) ((rowSlot obM).view.write (Elt F) fr
        (SparseCore.gatherPayload gathers_S100000x128_S128x128 ((tblAll tblM).view.read (Elt F) (m (xLoc d)))
          (SparseCore.rows ((idxList ibM).view.read (Elt F) ((idxSlot ibM).view.write (Elt F) fs ((srcBlk idxM (k0_off2 L) (inb2 L h1)).view.read (Elt F) (fi d)) Finset.univ))
            rfl (list_inb fi hpre d L h1 fs))) Finset.univ)) Finset.univ := by
  rw [View.read_write_univ]
  refine View.admitted_some_iff.mpr fun x _ => ?_
  have hd := emb_dst L h1 x
  refine Eq.trans ?_ (congrArg (G m fi d) hd).symm
  unfold SparseCore.gatherPayload
  refine congrArg (m (xLoc d) : S100000x128.Idx → Elt F .f32) (?_ : ((Rect.unit (s := S100000x128) ![0, 0] S100000x128.size inb_S100000x128_S100000x128_0_0).emb _ : S100000x128.Idx) = _)
  have hx : (x 0).val < 128 := (x 0).isLt
  funext a
  apply Fin.ext
  match a with
  | 0 =>
    show 0 + 1 * (Shape.Gathers.idx gathers_S100000x128_S128x128 _ x gathers_S100000x128_S128x128.axis).val = (word fi d ⟨128 * (L 1).val + (x 0).val, _⟩).toNat % 100000
    rw [Shape.Gathers.idx_axis, Nat.mod_eq_of_lt (hpre d _)]
    show 0 + 1 * (((idxList ibM).view.read (Elt F) _ _ : BitVec 32)).toNat = _
    rw [list_words fi d L h1 fs, Nat.zero_add, Nat.one_mul]
    have hy : ((S128.rowMajor.symm (Fin.cast rfl (x 0)) : S128.Idx) 0).val = (x 0).val := by
      have := Shape.rowMajor_val_one (d := ![128]) (S128.rowMajor.symm (Fin.cast rfl (x 0)))
      rw [← this]; exact congrArg Fin.val (S128.rowMajor.apply_symm_apply (Fin.cast rfl (x 0)))
    refine congrArg (fun b => (word fi d b).toNat) (Fin.ext ?_)
    exact congrArg (128 * (L 1).val + ·) hy
  | 1 =>
    show 0 + 1 * (Shape.Gathers.idx gathers_S100000x128_S128x128 _ x 1).val = (x 1).val
    rw [Shape.Gathers.idx_of_ne _ _ _ _ (by decide), Nat.zero_add, Nat.one_mul]; rfl

/-! ## The write-out: a local transfer onto an array in write mode -/

/-- A local transfer onto elements held in write mode, the payload what their targets say: its flight delivers the
    elements marked written, and the source back. -/
theorem wp_dmaShared {Λ : Labels} {defs : Defs nD τ sig (Elt F) Λ} (𝒱' : Variants) (c : Thread nD τ) (bd : Option 𝒱'.V) {ιwm : ℕ}
    {α : Type} {Q : α → sProp 𝕄} {sp sp' : Space} {s : Shape} {e : EltTy}
    {src : Memref sig c.2.kind sp s e} {dst : Memref sig c.2.kind sp' s e} {sm : SemLoc sig} {hsrc : src.view.WordExact} {hdst : dst.view.WordExact}
    {hsem : DmaTarget.Typed (nD := nD) sp sm (.here dst)}
    {k : PUnit → Prog (TpuEff nD τ sig (Elt F) Λ c.2) α} {q : PosShare TreeShare} {fs : Buf (Elt F) (src.view.loc c)}
    {qd : PosShare TreeShare} {fd : Buf (Elt F) (dst.view.loc c)} {g : Tgt (Elt F) (dst.view.loc c)} {W : Finset (Idx (dst.view.loc c))}
    (ι : HIx 1) (N : ℕ) (hN : dst.view.amount sm = N) (hN0 : 0 < N)
    (hadm : dst.view.Admitted (Elt F) g (src.view.read (Elt F) fs) Finset.univ) :
    iprop(wmInv emb ιwm ∗ (src.view.loc c ↦[src.view.set]{q} fs) ∗ (dst.view.loc c ⇝[dst.view.set]{qd} fd ⇒ g @ W) ∗ semVal (c, sm) 0)
      ⊢ iprop((Transfers.Flight countersEmb c sm ι N iprop((dst.view.loc c ⇝[dst.view.set]{qd} fd ⇒ g @ (W ∪ dst.view.set)) ∗ (src.view.loc c ↦[src.view.set]{q} fs))
              -∗ wp frame (wpE defs 𝒱' c bd) Set.univ (k ⟨⟩) Q)
          -∗ wp frame (wpE defs 𝒱' c bd) Set.univ (.op (.enqueueDma src (.here dst) sm hsrc hdst hsem) k) Q : sProp 𝕄) := by
  iintro ⟨Hwm, Hs, Hd, Hv⟩ Hk
  imod (Transfers.flight_alloc countersEmb hN0 (g := (c, sm))
    iprop((dst.view.loc c ⇝[dst.view.set]{qd} fd ⇒ g @ (W ∪ dst.view.set)) ∗ (src.view.loc c ↦[src.view.set]{q} fs))) $$ Hv with ⟨%γ, %δ, %κ, #Hinv, Hγ, Hδ⟩
  iapply (wp_enqueueDma_willBeTo (emb := emb) (ιwm := ιwm) 𝒱' c bd Set.univ ι N hN hadm) $$ [Hwm Hs Hd] [Hγ]
  · isplitl [Hs]; · iexact Hs
    isplitl [Hwm]; · iexact Hwm
    iexact Hd
  · iapply (Transfers.flight_creditUpdate countersEmb (δ := δ))
    isplitr; · iexact Hinv
    iexact Hγ
  iintro Hcred
  iapply Hk
  iapply (Transfers.flight_intro countersEmb c (κ := κ))
  isplitr; · iexact Hinv
  isplitl [Hδ] <;> iassumption

/-- A buffer's two parts, held at different contents, are the buffer at some contents. -/
theorem pts_parts {ℓ : Loc nD τ sig} (I : Finset (Idx ℓ)) (q : PosShare TreeShare) (f g : Buf (Elt F) ℓ) :
    (iprop((ℓ ↦[I]{q} f) ∗ ℓ ↦[Finset.univ \ I]{q} g) : sProp 𝕄) ⊢ iprop(∃ h, ℓ ↦{q} h) := by
  rw [pointsTo_congr (I := I) (f := f) (g := I.piecewise f g) fun i hi => (Finset.piecewise_eq_of_mem _ _ _ hi).symm,
    pointsTo_congr (I := Finset.univ \ I) (f := g) (g := I.piecewise f g) fun i hi => (Finset.piecewise_eq_of_notMem _ _ _ (Finset.mem_sdiff.mp hi).2).symm]
  iintro H
  iexists _
  iapply (pointsTo_split_subset (Finset.subset_univ I)).2 $$ H

/-! ## The tile's run -/

/-- The kernel as the call runs it on tile `L`. -/
abbrev tileProg (L : grid0.Coords) : Prog (TpuEff nD τ sig (Elt F) Λ₀ (.scVector (cV L) (jV L))) PUnit :=
  cc0_gather_kernel (F := F) L tblM (Memref.isWhole_whole _) idxM (Memref.isWhole_whole _) outM (Memref.isWhole_whole _)
    ibM (Memref.isWhole_whole _) cc0_scoped1 obM (Memref.isWhole_whole _) cc0_scoped3 cc0_scoped4 cc0_scoped5

/-! The pieces, as the line names them. -/

theorem pts_src (d : Dev nD) (L : grid0.Coords) (h1 : k0_cond1 L = 1#1) (q : PosShare TreeShare) (f : Buf (Elt F) (iLoc d)) :
    (iLoc d ↦[(srcBlk idxM (k0_off2 L) (inb2 L h1)).view.set]{q} f : sProp 𝕄)
      = (srcBlk idxM (k0_off2 L) (inb2 L h1)).view.loc (V d (cV L) (jV L)) ↦[(srcBlk idxM (k0_off2 L) (inb2 L h1)).view.set]{q} f := rfl
theorem pts_islot (d : Dev nD) (L : grid0.Coords) (f : Buf (Elt F) ((V d (cV L) (jV L)).loc cc0_scoped0)) :
    ((V d (cV L) (jV L)).loc cc0_scoped0 ↦[(idxSlot ibM).view.set]{fullShare} f : sProp 𝕄)
      = (idxSlot ibM).view.loc (V d (cV L) (jV L)) ↦[(idxSlot ibM).view.set]{fullShare} f := rfl
theorem pts_rslot (d : Dev nD) (L : grid0.Coords) (f : Buf (Elt F) ((V d (cV L) (jV L)).loc cc0_scoped2)) :
    ((V d (cV L) (jV L)).loc cc0_scoped2 ↦[(rowSlot obM).view.set]{fullShare} f : sProp 𝕄)
      = (rowSlot obM).view.loc (V d (cV L) (jV L)) ↦[(rowSlot obM).view.set]{fullShare} f := rfl
theorem pts_tbl (d : Dev nD) (L : grid0.Coords) (q : PosShare TreeShare) (f : Buf (Elt F) (xLoc d)) :
    (xLoc d ↦[(tblAll tblM).view.set]{q} f : sProp 𝕄) = (tblAll tblM).view.loc (V d (cV L) (jV L)) ↦[(tblAll tblM).view.set]{q} f := rfl

theorem pts_fetched (d : Dev nD) (L : grid0.Coords) {f g : Buf (Elt F) ((V d (cV L) (jV L)).loc cc0_scoped0)} (h : f = g) :
    ((idxSlot ibM).view.loc (V d (cV L) (jV L)) ↦[(idxSlot ibM).view.set]{fullShare} f : sProp 𝕄)
      = (V d (cV L) (jV L)).loc cc0_scoped0 ↦[(idxSlot ibM).view.set]{fullShare} g := by rw [h]
theorem pts_list (d : Dev nD) (L : grid0.Coords) (f : Buf (Elt F) ((V d (cV L) (jV L)).loc cc0_scoped0)) :
    ((V d (cV L) (jV L)).loc cc0_scoped0 ↦[(idxList ibM).view.set]{fullShare} f : sProp 𝕄)
      = (idxList ibM).view.loc (V d (cV L) (jV L)) ↦[(idxList ibM).view.set]{fullShare} f := rfl
theorem list_sub : (idxList ibM).view.set ⊆ (idxSlot ibM).view.set := by
  show (((idxSlot ibM).view.slice (Rect.unit (s := S1x128) ![0, 0] S1x128.size inb_S1x128_S1x128_0_0)).reshape S128 squeezes_S1x128_S128.numel_eq).set ⊆ _
  rw [View.set_reshape]
  exact View.set_slice_subset _ _
theorem wb_dst (d : Dev nD) (L : grid0.Coords) (h1 : k0_cond1 L = 1#1) (q : PosShare TreeShare) (f : Buf (Elt F) (oLoc d)) (g : Tgt (Elt F) (oLoc d))
    (W : Finset (Idx (oLoc d))) :
    (oLoc d ⇝[oRow d (jV L)]{q} f ⇒ g @ W : sProp 𝕄)
      = (dstBlk outM (k0_off13 L 0#32) (inb13 L h1)).view.loc (V d (cV L) (jV L)) ⇝[(dstBlk outM (k0_off13 L 0#32) (inb13 L h1)).view.set]{q} f ⇒ g @ W := by
  rw [dst_set d L h1]

theorem wb_marked (d : Dev nD) (L : grid0.Coords) (h1 : k0_cond1 L = 1#1) (q : PosShare TreeShare) (f : Buf (Elt F) (oLoc d)) (g : Tgt (Elt F) (oLoc d)) :
    ((dstBlk outM (k0_off13 L 0#32) (inb13 L h1)).view.loc (V d (cV L) (jV L)) ⇝[(dstBlk outM (k0_off13 L 0#32) (inb13 L h1)).view.set]{q} f ⇒ g
        @ (∅ ∪ (dstBlk outM (k0_off13 L 0#32) (inb13 L h1)).view.set) : sProp 𝕄)
      = oLoc d ⇝[oRow d (jV L)]{q} f ⇒ g @ Finset.univ := by
  rw [← dst_set d L h1]
  refine BI.Region.willBe_congr (fun _ _ => rfl) (fun _ _ => rfl) fun i hi => ?_
  exact iff_of_true (Finset.mem_union_right _ hi) (Finset.mem_univ _)

set_option maxHeartbeats 4000000 in
/-- A tile with a block: the line, its transfers one by one. -/
theorem line_body (hpre : PreOK fi) (d : Dev nD) (L : grid0.Coords) (h1 : k0_cond1 L = 1#1) (ιwm : ℕ)
    (O : CellTallies nD τ sig (HIx 1)) (W : Waits sig (HIx 1)) (hO : ∀ g, O g none = 0) (c2 : Fin 2)
    (fs : Buf (Elt F) ((V d (cV L) (jV L)).loc cc0_scoped0)) (fr : Buf (Elt F) ((V d (cV L) (jV L)).loc cc0_scoped2)) :
    iprop(levAts (K (F := F)).L (K (F := F)).lev ∗ wmInv emb ιwm ∗ tileP m fi d c2 (jV L) ∅
        ∗ ((V d (cV L) (jV L)).loc cc0_scoped0 ↦{fullShare} fs) ∗ ((V d (cV L) (jV L)).loc cc0_scoped2 ↦{fullShare} fr)
        ∗ semVal (cA d (cV L) (jV L)) 0 ∗ semVal (cB d (cV L) (jV L)) 0 ∗ semVal (cG d (cV L) (jV L)) 0 ∗ owes (V d (cV L) (jV L)) O W)
      ⊢ wp frame (wpE (defs₀ (F := F)) 𝒱₀ (V d (cV L) (jV L)) none) Set.univ (line L tblM idxM outM ibM obM h1 cc0_scoped1 cc0_scoped3 cc0_scoped4)
          fun _ => iprop(tileP m fi d c2 (jV L) Finset.univ
            ∗ (∃ f, (V d (cV L) (jV L)).loc cc0_scoped0 ↦{fullShare} f) ∗ (∃ f, (V d (cV L) (jV L)).loc cc0_scoped2 ↦{fullShare} f)
            ∗ semVal (cA d (cV L) (jV L)) 0 ∗ semVal (cB d (cV L) (jV L)) 0 ∗ semVal (cG d (cV L) (jV L)) 0
            ∗ ∃ W', ⌜∀ p ∈ W', p ∈ W ∨ p.2 = none⌝ ∗ owes (V d (cV L) (jV L)) O W') := by
  have c1 := chk1 L h1 (trip L h1)
  have c2' := chk2 L (trip L h1)
  have c3 := chk3 L (trip L h1)
  have c8 := chk8 L
  have c7 := chk7 L
  unfold line
  iintro ⟨#Hlv, #Hwm, ⟨Hx, Hi, Ho⟩, Hs, Hr, HsemA, HsemB, HsemG, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi := (pointsTo_split_subset (Finset.subset_univ (srcBlk idxM (k0_off2 L) (inb2 L h1)).view.set)).1 $$ Hi
  icases Hi with ⟨Hi, Hir⟩
  ihave Hs := (pointsTo_split_subset (Finset.subset_univ (idxSlot ibM).view.set)).1 $$ Hs
  icases Hs with ⟨Hs, Hsr⟩
  ihave Hr := (pointsTo_split_subset (Finset.subset_univ (rowSlot obM).view.set)).1 $$ Hr
  icases Hr with ⟨Hr, Hrr⟩
  ihave Hx := (pointsTo_split_subset (Finset.subset_univ (tblAll tblM).view.set)).1 $$ Hx
  icases Hx with ⟨Hx, Hxr⟩
  ihave Hi := (Entails.of_eq (pts_src (F := F) d L h1 _ _)) $$ Hi
  ihave Hs := (Entails.of_eq (pts_islot (F := F) d L _)) $$ Hs
  sl_exec
  have hfetch : (idxSlot ibM).view.writes (Elt F) fs [⟨Rect.whole S1x128, line_body.sl.dma0 fi d L h1⟩]
      = (idxSlot ibM).view.write (Elt F) fs ((srcBlk idxM (k0_off2 L) (inb2 L h1)).view.read (Elt F) (fi d)) Finset.univ :=
    (View.write_univ_eq_writes_whole (idxSlot ibM).view fs [] _).symm
  ihave Hs := (Entails.of_eq (pts_fetched (F := F) d L (hfetch : _ = _))) $$ Hs
  ihave Hs := (pointsTo_split_subset list_sub).1 $$ Hs
  icases Hs with ⟨Hs, Hsq⟩
  ihave Hx := (Entails.of_eq (pts_tbl (F := F) d L _ _)) $$ Hx
  ihave Hr := (Entails.of_eq (pts_rslot (F := F) d L _)) $$ Hr
  ihave Hs := (Entails.of_eq (pts_list (F := F) d L _)) $$ Hs
  have hN : ∀ h : S100000x128.Gathers 0 S128x128, ∑ j, ((rowSlot obM).slice (S128x128.rowRect h.axis' j) (S128x128.stride_rowRect h.axis' j)).view.dmaCredit
      = (rowSlot obM).view.dmaCredit := by decide
  iapply (SparseCore.wp_indirectGatherLocal countersEmb 𝒱₀ (V d (cV L) (jV L)) none (hg := gathers_S100000x128_S128x128) (default : HIx 1)
      (rowSlot obM).view.dmaCredit (hN _) (by decide) (list_inb fi hpre d L h1 fs)) $$ [Hx Hr Hs HsemG]
  · isplitl [Hx]; · iexact Hx
    isplitl [Hr]; · iexact Hr
    isplitl [Hs]; · iexact Hs
    iexact HsemG
  iintro Hfl
  sl_exec
  iapply (Transfers.wp_waitLocalO countersEmb 𝒱₀ (V d (cV L) (jV L)) none (default : HIx 1) (rfl : (rowSlot obM).view.dmaCredit = _)) $$ [Hfl HO]
  · isplitl [Hfl]; · iexact Hfl
    isplitl [HO]; · iexact HO
    iapply (Transfers.MayWaits.elim (SemLoc.dma cc0_scoped4.sem)) $$ Hmw
  iintro ⟨⟨Hr, Hx, Hs⟩, HsemG, HO⟩
  ihave Ho := (Entails.of_eq (wb_dst (F := F) d L h1 _ _ _ _)) $$ Ho
  rw [wp_ret]
  imodintro
  rw [wp_bind]
  unfold Prog.lift
  iapply (wp_dmaShared 𝒱₀ (V d (cV L) (jV L)) none (ιwm := ιwm) (default : HIx 1) ((dstBlk outM (k0_off13 L 0#32) (inb13 L h1)).view.amount (.dma semB)) rfl (View.dmaCredit_pos _ (by decide))
    (rows_admitted m fi hpre d L h1 fs fr)) $$ [Hr Ho HsemB]
  · isplitr; · iexact Hwm
    isplitl [Hr]; · iexact Hr
    isplitl [Ho]; · iexact Ho
    iexact HsemB
  iintro Hfl
  sl_exec
  sl_step
  ihave Hs := (pointsTo_split_subset (ℓ := (V d (cV L) (jV L)).loc cc0_scoped0) list_sub).2 $$ [Hs Hsq]
  · isplitl [Hs]; · iexact Hs
    iexact Hsq
  ihave Hs := (pts_parts (F := F) _ fullShare _ _) $$ [Hs Hsr]
  · isplitl [Hs]; · iexact Hs
    iexact Hsr
  ihave Hr := (pts_parts (F := F) (ℓ := (V d (cV L) (jV L)).loc cc0_scoped2) (rowSlot obM).view.set fullShare _ _) $$ [Hfl_src Hrr]
  · isplitl [Hfl_src]; · iexact Hfl_src
    iexact Hrr
  ihave Hx := (pointsTo_split_subset (ℓ := xLoc d) (Finset.subset_univ (tblAll tblM).view.set)).2 $$ [Hx Hxr]
  · isplitl [Hx]; · iexact Hx
    iexact Hxr
  isplitl [Hx Hir Hfl_dst]
  · isplitl [Hx]; · iexact Hx
    isplitl [Hir]; · iexact Hir
    iapply (Entails.of_eq (wb_marked (F := F) d L h1 _ _ _)) $$ Hfl_dst
  isplitl [Hs]; · iexact Hs
  isplitl [Hr]; · iexact Hr
  isplitl [HsemA]; · iexact HsemA
  isplitl [Hfl]; · iexact Hfl
  isplitl [HsemG]; · iexact HsemG
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- A tile without a block does nothing. -/
theorem kernel_idle (L : grid0.Coords) (h1 : ¬ k0_cond1 L = 1#1) : tileProg (F := F) L = pure ⟨⟩ := by
  unfold tileProg
  rw [cc0_gather_kernel_eq_skeleton]; unfold cc0_gather_kernel_skel
  rw [dif_neg h1]

theorem oRow_idle (d : Dev nD) (L : grid0.Coords) (h1 : ¬ k0_cond1 L = 1#1) : oRow d (jV L) = ∅ := by
  have hge : ¬ (L 1).val < 8 := fun h => h1 ((cond1_iff L).mpr h)
  refine Finset.filter_eq_empty_iff.mpr fun x _ hx => hge ?_
  have e0 : ((x : S1024x128.Idx) 0).val < 1024 := (x 0).isLt
  change ((x : S1024x128.Idx) 0).val / 128 = (L 1).val at hx
  omega

/-- The run of the call on tile `L`. -/
theorem tile_body (hF : (K (F := F)).Facts) (hpre : PreOK fi) (d : Dev nD) (L : grid0.Coords) (c2 : Fin 2)
    (O : CellTallies nD τ sig (HIx 1)) (W : Waits sig (HIx 1)) (hO : ∀ g, O g none = 0) :
    iprop(levAts (K (F := F)).L (K (F := F)).lev ∗ (∃ ι, wmInv emb ι) ∗ tileP m fi d c2 (jV L) ∅
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tileP m fi d c2 (jV L) Finset.univ
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h1 : k0_cond1 L = 1#1
  · unfold tileProg
    rw [kernel_line L tblM idxM outM ibM obM _ _ _ _ _ _ _ _ _ h1]
    rw [(K (F := F)).scopedBufs_V hF d (cV L) (jV L), SparseCore.Cfg.scopedSems0_V (Val := Elt F) d (cV L) (jV L), ownSems0_V, ownBufs_V]
    iintro ⟨#Hlv, ⟨%ιwm, #Hwm⟩, HP, ⟨⟨%fs, Hs⟩, ⟨%fr, Hr⟩, Hbufs⟩, ⟨HsemA, HsemB, HsemG, Hsems⟩, HO⟩
    ihave Hwp := (line_body m fi hpre d L h1 ιwm O W hO c2 fs fr) $$ [HP Hs Hr HsemA HsemB HsemG HO]
    · isplitr; · iexact Hlv
      isplitr; · iexact Hwm
      isplitl [HP]; · iexact HP
      isplitl [Hs]; · iexact Hs
      isplitl [Hr]; · iexact Hr
      isplitl [HsemA]; · iexact HsemA
      isplitl [HsemB]; · iexact HsemB
      isplitl [HsemG]; · iexact HsemG
      iexact HO
    ihave Hwp := (wp_frame_r frame (wpE (defs₀ (F := F)) 𝒱₀ (V d (cV L) (jV L)) none) Set.univ (R := iprop(bufsRest (F := F) d (cV L) (jV L) ∗ semsRest (F := F) d (cV L) (jV L)))) $$ [Hwp Hbufs Hsems]
    · isplitl [Hwp]; · iexact Hwp
      isplitl [Hbufs] <;> iassumption
    iapply (wp_mono _ _ _ ?_) $$ Hwp
    intro _
    iintro ⟨⟨HP, Hs, Hr, HsemA, HsemB, HsemG, HO⟩, Hbufs, Hsems⟩
    isplitl [HP]; · iexact HP
    isplitl [Hs Hr Hbufs]
    · isplitl [Hs]; · iexact Hs
      isplitl [Hr]; · iexact Hr
      iexact Hbufs
    isplitl [HsemA HsemB HsemG Hsems]
    · isplitl [HsemA]; · iexact HsemA
      isplitl [HsemB]; · iexact HsemB
      isplitl [HsemG]; · iexact HsemG
      iexact Hsems
    iexact HO
  · rw [kernel_idle L h1, wp_pure]
    iintro ⟨-, -, ⟨Hx, Hi, Ho⟩, Hb, Hs, HO⟩
    imodintro
    isplitl [Hx Hi Ho]
    · isplitl [Hx]; · iexact Hx
      isplitl [Hi]; · iexact Hi
      iapply (Entails.of_eq (BI.Region.willBe_congr (fun _ _ => rfl) (fun _ _ => rfl) fun i hi => absurd (oRow_idle d L h1 ▸ hi) (Finset.notMem_empty i))) $$ Ho
    isplitl [Hb]; · iexact Hb
    isplitl [Hs]; · iexact Hs
    iexists W; isplitr
    · ipureintro; exact fun p hp => .inl hp
    · iexact HO

/-! ## The obligation -/

/-- The coordinates of tile `(c, s)`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileProg (F := F) (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 4000000 in
set_option maxRecDepth 16384 in
theorem tileObl (hF : (K (F := F)).Facts) (hpre : PreOK fi) : (K (F := F)).TileObl (D (F := F)) 𝒱 (P m fi) v₀ 0 := by
  intro d c i O W hO _ _
  simp only [show (P m fi).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hP : (P m fi).go 0 d c i = tileP m fi d (Fin.cast nCore_zero c) (jV (coordsV ⟨_, hci.1⟩ ⟨_, hci.2⟩)) ∅ := rfl
  have hP' : (P m fi).td 0 d c i = tileP m fi d (Fin.cast nCore_zero c) (jV (coordsV ⟨_, hci.1⟩ ⟨_, hci.2⟩)) Finset.univ := rfl
  have hx : (P m fi).x 0 (V d ((K (F := F)).core 0 c) ((K (F := F)).sub 0 i)) = iprop(∃ ι, wmInv emb ι) := rfl
  rw [hP, hP', hx]
  exact (tile_body m fi hF hpre d (coordsV ⟨_, hci.1⟩ ⟨_, hci.2⟩) (Fin.cast nCore_zero c) O W hO).trans (wp_mono frame _ _ fun _ => obl_post)

/-! ## A core's part split among its tiles, and joined -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's part is its tiles'. -/
theorem core_tiles (d : Dev nD) (c : Fin 2) (W : Finset (Idx (oLoc d))) :
    (coreP m fi d c W : sProp 𝕄) = bigSep Finset.univ fun i : Fin 16 => tileP m fi d c i W := by
  rw [bigSep_sep', bigSep_sep', ← pts_tiles, ← pts_tiles, ← wb_biUnion (oRow d) _ _ _ _ _ (oRow_disjoint d), oRow_cover]

theorem vecSplit : (K (F := F)).VecSplit' (P m fi) 0 := by
  intro d c
  show (coreP m fi d (Fin.cast nCore_zero c) ∅ : sProp 𝕄) ⊢ |={Set.univ}=> iprop(
      (bigSep Finset.univ fun i : Fin ((K (F := F)).nSub 0) => tileP m fi d (Fin.cast nCore_zero c) (Fin.cast nSub_zero i) ∅)
      ∗ ((bigSep Finset.univ fun i : Fin ((K (F := F)).nSub 0) => tileP m fi d (Fin.cast nCore_zero c) (Fin.cast nSub_zero i) Finset.univ)
          -∗ coreP m fi d (Fin.cast nCore_zero c) Finset.univ))
  rw [bigSep_tasks (F := F) (fun i => tileP m fi d (Fin.cast nCore_zero c) i ∅),
    bigSep_tasks (F := F) (fun i => tileP m fi d (Fin.cast nCore_zero c) i Finset.univ), ← core_tiles, ← core_tiles]
  iintro H; imodintro
  isplitl [H]; · iexact H
  iintro H; iexact H

end Cert.KernelIdeal.Run

end
-- ==== Proof.TcBody.lean ====
/-
  The TensorCore kernel's body, run once at a symbolic grid point.
-/
module

public import proofs.«01_k».proof.Proof.ScCommon
public import proofs.«01_k».proof.Proof.Gen.KernelIdeal.Points
public import proofs.«01_k».proof.Proof.Gen.KernelIdeal.Launch
public import proofs.«01_k».proof.Proof.Gen.KernelIdeal.Skeleton
public import Idealize.ShloMosaic.Lib.Pipeline.RegionArraysS
public import Idealize.ShloMosaic.Lib.Pipeline.FrameBody
public import Idealize.ShloMosaic.Lib.VecWindow
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ (UU F) ℕ

/-! ## What a grid point computes -/

variable (F) in
/-- What the kernel carries from a grid point to the next: the scores not yet reduced, the running maximum and the
    running sum. -/
structure St where
  /-- The scores the next point reduces. -/
  B : Vec F S2000x1024 .f32
  /-- The running maximum of the scores. -/
  mx : Vec F S1x1024 .f32
  /-- The running sum of the exponentials, relative to the maximum. -/
  sm : Vec F S1x1024 .f32

/-- The values the first point sets. -/
def St.start : St F := ⟨k1_pay3, k1_pay1, k1_pay2⟩

/-- The scores of the block's first half. -/
def halfA (X : Vec F S128x1024 .bf16) (T : Vec F S4000x128 .f32) : Vec F S2000x1024 .f32 := k1_pay6 T X
/-- The scores of the block's second half. -/
def halfB (X : Vec F S128x1024 .bf16) (T : Vec F S4000x128 .f32) : Vec F S2000x1024 .f32 := k1_pay11 (k1_pay4 T) (k1_pay5 X)

/-- Grid point `j`: the scores left by the point before are reduced, then those of the block's first half; those of
    its second half are left for the next point. -/
def St.step (j : ℕ) (X : Vec F S128x1024 .bf16) (T : Vec F S4000x128 .f32) (st : St F) : St F where
  B := halfB X T
  mx := k1_pay13 (k1_pay9 st.mx st.B) (halfA X T)
  sm := k1_pay14 (BitVec.ofNat 32 j) (k1_pay9 st.mx st.B) (k1_pay10 (k1_pay8 st.mx st.sm st.B)) (halfA X T)

/-- The loss from the last point's values. -/
def lossOf (X Gt : Vec F S128x1024 .bf16) (st : St F) : Vec F S1x1 .f32 := k1_pay15 X Gt st.sm st.mx

/-! ## The body -/

/-- The four scratch buffers. -/
abbrev mA : Memref sig .tc .vmem S2000x1024 .f32 := Memref.whole cc1_scratch0
abbrev mB : Memref sig .tc .vmem S2000x1024 .f32 := Memref.whole cc1_scratch1
abbrev mM : Memref sig .tc .vmem S1x1024 .f32 := Memref.whole cc1_scratch2
abbrev mS : Memref sig .tc .vmem S1x1024 .f32 := Memref.whole cc1_scratch3

/-- Whether the body sets the carried values first, as the body computes it: at grid point 0. -/
abbrev cond1 (i : grid1.Coords) : BitVec 1 :=
  Scalar.cmpi .ne (Scalar.extui (Scalar.cmpi .eq (BitVec.ofNat 32 (i 0).val) 0#32) : BitVec 32) 0#32

/-- The scratch buffers hold what a grid point leaves. -/
abbrev scrP (c : Dev nD) (st : St F) : sProp 𝕄 :=
  iprop((∃ a, owns (c : Thread nD τ) mA fullShare a) ∗ owns (c : Thread nD τ) mB fullShare st.B
    ∗ owns (c : Thread nD τ) mM fullShare st.mx ∗ owns (c : Thread nD τ) mS fullShare st.sm)

/-- A grid point that is neither the first nor the last. -/
theorem body_middle (c : Dev nD) (i : grid1.Coords)
    (arg1 : Memref sig .tc .vmem S128x1024 .bf16) (harg1 : arg1.IsWhole) (arg2 : Memref sig .tc .vmem S4000x128 .f32) (harg2 : arg2.IsWhole)
    (arg3 : Memref sig .tc .vmem S128x1024 .bf16) (harg3 : arg3.IsWhole) (arg4 : Memref sig .tc .vmem S1x1 .f32) (harg4 : arg4.IsWhole)
    (X Gt : Vec F S128x1024 .bf16) (Tb : Vec F S4000x128 .f32) (st : St F)
    (h0 : ¬ cond1 i = 1#1) (h25 : ¬ k1_cond2 i = 1#1) (Q : PUnit → sProp 𝕄) :
    iprop(owns (c : Thread nD τ) arg1 fullShare X ∗ owns (c : Thread nD τ) arg2 fullShare Tb ∗ scrP c st
        ∗ (iprop(owns (c : Thread nD τ) arg1 fullShare X ∗ owns (c : Thread nD τ) arg2 fullShare Tb
            ∗ scrP c (St.step (i 0).val X Tb st)) -∗ Q ⟨⟩))
      ⊢ wp frame (wpE (defs₀ (F := F)) Variants.none c none) Set.univ
          (cc1__lse_body i arg1 harg1 arg2 harg2 arg3 harg3 arg4 harg4 mA (Memref.isWhole_whole _) mB (Memref.isWhole_whole _) mM (Memref.isWhole_whole _) mS (Memref.isWhole_whole _)) Q := by
  rw [cc1__lse_body_eq_skeleton]; unfold cc1__lse_body_skel
  rw [k1_part2_eq_skeleton]; unfold k1_part2_skel
  rw [k1_part1_eq_skeleton]; unfold k1_part1_skel
  unfold scrP owns
  iintro ⟨⟨%f1, %e1, H1⟩, ⟨%f2, %e2, H2⟩, ⟨⟨%a, %fa, -, HA⟩, ⟨%fb, %eb, HB⟩, ⟨%fm, %em, HM⟩, ⟨%fs, %es, HS⟩⟩, Hk⟩
  obtain ⟨B0, m0, s0⟩ := st
  dsimp only at eb em es
  subst e1 e2 eb em es
  sl_exec
  sl_step
  iapply Hk
  isplitl [H1]
  · iexists f1; isplitr; swap; · iexact H1
    ipureintro; rfl
  isplitl [H2]
  · iexists f2; isplitr; swap; · iexact H2
    ipureintro; rfl
  isplitl [HA]
  · iexists _, _; isplitr; swap; · iexact HA
    ipureintro; rfl
  isplitl [HB]
  · iexists _; isplitr; swap; · iexact HB
    ipureintro
    rw [View.read_writes_full]; repeat rw [View.readAt_full]
    rfl
  isplitl [HM]
  · iexists _; isplitr; swap; · iexact HM
    ipureintro
    delta body_middle.sl.v42 body_middle.sl.v43 body_middle.sl.v44 body_middle.sl.HM_1 body_middle.sl.HS_1 body_middle.sl.HA_1
    rw [View.read_writes_full]
    repeat first | rw [View.readCov_full] | rw [View.readAt_full]
    rfl
  iexists _; isplitr; swap; · iexact HS
  ipureintro
  delta body_middle.sl.v42 body_middle.sl.v43 body_middle.sl.v44 body_middle.sl.HM_1 body_middle.sl.HS_1 body_middle.sl.HA_1
  rw [View.read_writes_full]
  repeat first | rw [View.readCov_full] | rw [View.readAt_full]
  rfl

/-- The first grid point. -/
theorem body_first (c : Dev nD) (i : grid1.Coords)
    (arg1 : Memref sig .tc .vmem S128x1024 .bf16) (harg1 : arg1.IsWhole) (arg2 : Memref sig .tc .vmem S4000x128 .f32) (harg2 : arg2.IsWhole)
    (arg3 : Memref sig .tc .vmem S128x1024 .bf16) (harg3 : arg3.IsWhole) (arg4 : Memref sig .tc .vmem S1x1 .f32) (harg4 : arg4.IsWhole)
    (X Gt : Vec F S128x1024 .bf16) (Tb : Vec F S4000x128 .f32)
    (h0 : cond1 i = 1#1) (h25 : ¬ k1_cond2 i = 1#1) (Q : PUnit → sProp 𝕄) :
    iprop(owns (c : Thread nD τ) arg1 fullShare X ∗ owns (c : Thread nD τ) arg2 fullShare Tb ∗ (∃ st : St F, scrP c st)
        ∗ (iprop(owns (c : Thread nD τ) arg1 fullShare X ∗ owns (c : Thread nD τ) arg2 fullShare Tb
            ∗ scrP c (St.step (i 0).val X Tb (St.start : St F))) -∗ Q ⟨⟩))
      ⊢ wp frame (wpE (defs₀ (F := F)) Variants.none c none) Set.univ
          (cc1__lse_body i arg1 harg1 arg2 harg2 arg3 harg3 arg4 harg4 mA (Memref.isWhole_whole _) mB (Memref.isWhole_whole _) mM (Memref.isWhole_whole _) mS (Memref.isWhole_whole _)) Q := by
  rw [cc1__lse_body_eq_skeleton]; unfold cc1__lse_body_skel
  rw [k1_part2_eq_skeleton]; unfold k1_part2_skel
  rw [k1_part1_eq_skeleton]; unfold k1_part1_skel
  unfold scrP owns
  iintro ⟨⟨%f1, %e1, H1⟩, ⟨%f2, %e2, H2⟩, ⟨%st, ⟨%a, %fa, -, HA⟩, ⟨%fb, -, HB⟩, ⟨%fm, -, HM⟩, ⟨%fs, -, HS⟩⟩, Hk⟩
  subst e1 e2
  sl_exec
  sl_step
  iapply Hk
  isplitl [H1]
  · iexists f1; isplitr; swap; · iexact H1
    ipureintro; rfl
  isplitl [H2]
  · iexists f2; isplitr; swap; · iexact H2
    ipureintro; rfl
  isplitl [HA]
  · iexists _, _; isplitr; swap; · iexact HA
    ipureintro; rfl
  isplitl [HB]
  · iexists _; isplitr; swap; · iexact HB
    ipureintro
    rw [View.read_writes_full]; repeat rw [View.readAt_full]
    rfl
  isplitl [HM]
  · iexists _; isplitr; swap; · iexact HM
    ipureintro
    delta body_first.sl.v42 body_first.sl.v43 body_first.sl.v44 body_first.sl.HM_1 body_first.sl.HS_1 body_first.sl.HA_1 body_first.sl.HM_2 body_first.sl.HS_2 body_first.sl.v12 body_first.sl.v13 body_first.sl.v14 body_first.sl.HB_1
    rw [View.read_writes_full]
    repeat first | rw [View.readCov_full] | rw [View.readAt_full]
    rfl
  iexists _; isplitr; swap; · iexact HS
  ipureintro
  delta body_first.sl.v42 body_first.sl.v43 body_first.sl.v44 body_first.sl.HM_1 body_first.sl.HS_1 body_first.sl.HA_1 body_first.sl.HM_2 body_first.sl.HS_2 body_first.sl.v12 body_first.sl.v13 body_first.sl.v14 body_first.sl.HB_1
  rw [View.read_writes_full]
  repeat first | rw [View.readCov_full] | rw [View.readAt_full]
  rfl

/-- The last grid point. -/
theorem body_last (c : Dev nD) (i : grid1.Coords)
    (arg1 : Memref sig .tc .vmem S128x1024 .bf16) (harg1 : arg1.IsWhole) (arg2 : Memref sig .tc .vmem S4000x128 .f32) (harg2 : arg2.IsWhole)
    (arg3 : Memref sig .tc .vmem S128x1024 .bf16) (harg3 : arg3.IsWhole) (arg4 : Memref sig .tc .vmem S1x1 .f32) (harg4 : arg4.IsWhole)
    (X Gt : Vec F S128x1024 .bf16) (Tb : Vec F S4000x128 .f32) (st : St F)
    (h0 : ¬ cond1 i = 1#1) (h25 : k1_cond2 i = 1#1) (Q : PUnit → sProp 𝕄) :
    iprop(owns (c : Thread nD τ) arg1 fullShare X ∗ owns (c : Thread nD τ) arg2 fullShare Tb ∗ owns (c : Thread nD τ) arg3 fullShare Gt ∗ (∃ l, owns (c : Thread nD τ) arg4 fullShare l) ∗ scrP c st
        ∗ (iprop(owns (c : Thread nD τ) arg1 fullShare X ∗ owns (c : Thread nD τ) arg2 fullShare Tb ∗ owns (c : Thread nD τ) arg3 fullShare Gt ∗ owns (c : Thread nD τ) arg4 fullShare (lossOf X Gt (St.step (i 0).val X Tb st))
            ∗ scrP c (St.step (i 0).val X Tb st)) -∗ Q ⟨⟩))
      ⊢ wp frame (wpE (defs₀ (F := F)) Variants.none c none) Set.univ
          (cc1__lse_body i arg1 harg1 arg2 harg2 arg3 harg3 arg4 harg4 mA (Memref.isWhole_whole _) mB (Memref.isWhole_whole _) mM (Memref.isWhole_whole _) mS (Memref.isWhole_whole _)) Q := by
  rw [cc1__lse_body_eq_skeleton]; unfold cc1__lse_body_skel
  rw [k1_part2_eq_skeleton]; unfold k1_part2_skel
  rw [k1_part1_eq_skeleton]; unfold k1_part1_skel
  unfold scrP owns
  iintro ⟨⟨%f1, %e1, H1⟩, ⟨%f2, %e2, H2⟩, ⟨%f3, %e3, H3⟩, ⟨%l, %f4, -, H4⟩, ⟨⟨%a, %fa, -, HA⟩, ⟨%fb, %eb, HB⟩, ⟨%fm, %em, HM⟩, ⟨%fs, %es, HS⟩⟩, Hk⟩
  obtain ⟨B0, m0, s0⟩ := st
  dsimp only at eb em es
  subst e1 e2 e3 eb em es
  sl_exec
  sl_step
  iapply Hk
  isplitl [H1]
  · iexists f1; isplitr; swap; · iexact H1
    ipureintro; rfl
  isplitl [H2]
  · iexists f2; isplitr; swap; · iexact H2
    ipureintro; rfl
  isplitl [H3]
  · iexists f3; isplitr; swap; · iexact H3
    ipureintro; rfl
  isplitl [H4]
  · iexists _; isplitr; swap; · iexact H4
    ipureintro
    delta body_last.sl.v42 body_last.sl.v43 body_last.sl.v44 body_last.sl.HM_1 body_last.sl.HS_1 body_last.sl.HA_1 body_last.sl.HM_2 body_last.sl.HS_2 body_last.sl.v77 body_last.sl.v79
    rw [View.read_writes_full]
    repeat first | rw [View.readCov_full] | rw [View.readAt_full]
    rfl
  isplitl [HA]
  · iexists _, _; isplitr; swap; · iexact HA
    ipureintro; rfl
  isplitl [HB]
  · iexists _; isplitr; swap; · iexact HB
    ipureintro
    rw [View.read_writes_full]; repeat rw [View.readAt_full]
    rfl
  isplitl [HM]
  · iexists _; isplitr; swap; · iexact HM
    ipureintro
    delta body_last.sl.v42 body_last.sl.v43 body_last.sl.v44 body_last.sl.HM_1 body_last.sl.HS_1 body_last.sl.HA_1 body_last.sl.HM_2 body_last.sl.HS_2 body_last.sl.v77 body_last.sl.v79
    rw [View.read_writes_full]
    repeat first | rw [View.readCov_full] | rw [View.readAt_full]
    rfl
  iexists _; isplitr; swap; · iexact HS
  ipureintro
  delta body_last.sl.v42 body_last.sl.v43 body_last.sl.v44 body_last.sl.HM_1 body_last.sl.HS_1 body_last.sl.HA_1 body_last.sl.HM_2 body_last.sl.HS_2 body_last.sl.v77 body_last.sl.v79
  rw [View.read_writes_full]
  repeat first | rw [View.readCov_full] | rw [View.readAt_full]
  rfl

end Cert.KernelIdeal.Run

end
-- ==== Proof.TcRegion.lean ====
/-
  The TensorCore call: the pipeline's proof data and its body obligation.
-/
module

public import proofs.«01_k».proof.Proof.TcBody

@[expose] public section

noncomputable section

namespace Cert.KernelIdeal.Run

open Cert.KernelIdeal Cert.KernelIdeal.Gen

open Idealize.ShloMosaic
open Idealize.ShloMosaic.TcCoe
open Idealize.ShloMosaic.SparseCore (T)
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ (UU F) ℕ

variable (W : Dev nD → Valuation τ sig (Elt F)) (b : ℕ)

/-! ## The blocks, and what each point leaves -/

/-- The block of a window at point `t`, of the arrays as the call finds them. -/
def blkX (c : Dev nD) (t : Fin cfg1.N) : Vec F S128x1024 .bf16 :=
  ((cfg1.win 0).blk t).view.read (Elt F) (W c (Proc.devRef .tc (Pipeline.arrRef spec1 0)))
def blkT (c : Dev nD) (t : Fin cfg1.N) : Vec F S4000x128 .f32 :=
  ((cfg1.win 1).blk t).view.read (Elt F) (W c (Proc.devRef .tc (Pipeline.arrRef spec1 1)))
def blkG (c : Dev nD) (t : Fin cfg1.N) : Vec F S128x1024 .bf16 :=
  ((cfg1.win 2).blk t).view.read (Elt F) (W c (Proc.devRef .tc (Pipeline.arrRef spec1 2)))

/-- The carried values before point `n`. -/
def stAt (c : Dev nD) : ℕ → St F
  | 0 => St.start
  | n + 1 => if h : n < cfg1.N then St.step n (blkX W c ⟨n, h⟩) (blkT W c ⟨n, h⟩) (stAt c n) else stAt c n

/-- The loss, as the last point leaves it. -/
def lossAt (c : Dev nD) (t : Fin cfg1.N) : Vec F S1x1 .f32 := lossOf (blkX W c t) (blkG W c t) (stAt W c (t.val + 1))

/-! ## The proof data -/

/-- The pipeline's proof data: the scratch buffers hold the carried values between points. -/
def dat (c : Dev nD) : Dat τ (Elt F) (HIx 1) ℕ (UU F) ℕ cfg1 c where
  A w := W c (Proc.devRef .tc (Pipeline.arrRef spec1 w))
  after w t := match w with
    | 0 => blkX W c t
    | 1 => blkT W c t
    | 2 => blkG W c t
    | 3 => lossAt W c t
    | ⟨_ + 4, h⟩ => absurd h (Nat.not_lt.2 (Nat.le_add_left _ _))
  Φ t := iprop(∃ st : St F, ⌜t.val ≠ 0 → st = stAt W c t.val⌝ ∗ scrP c st)
  q _ := fullShare
  owed _ := 0
  recorded _ := {p | (K (F := F)).lev (T c, p.1) p.2 ≤ b}

theorem before_0 (c : Dev nD) (t : Fin cfg1.N) (d) : (dat W b c).before 0 t d = blkX W c t :=
  (dat W b c).before_in_eq_fetched 0 rfl (fun _ => rfl) (fun _ _ _ => rfl) (fun _ => rfl) t d
theorem before_1 (c : Dev nD) (t : Fin cfg1.N) (d) : (dat W b c).before 1 t d = blkT W c t :=
  (dat W b c).before_in_eq_fetched 1 rfl (fun _ => rfl) (fun _ _ _ => rfl) (fun _ => rfl) t d
theorem before_2 (c : Dev nD) (t : Fin cfg1.N) (d) : (dat W b c).before 2 t d = blkG W c t :=
  (dat W b c).before_in_eq_fetched 2 rfl (fun _ => rfl) (fun _ _ _ => rfl) (fun _ => rfl) t d

theorem at_first : ∀ t : Fin cfg1.N, cond1 (grid1.coords t) = 1#1 ↔ t.val = 0 := by decide
theorem at_last : ∀ t : Fin cfg1.N, k1_cond2 (grid1.coords t) = 1#1 ↔ t.val = 25 := by decide
theorem coord_val : ∀ t : Fin cfg1.N, (grid1.coords t 0).val = t.val := by decide
theorem idle_3 (t : Fin cfg1.N) : cfg1.idle 3 (cfg1.grid.coords t) = !(k1_cond2 (grid1.coords t) == 1#1) := rfl

theorem stAt_succ (c : Dev nD) (t : Fin cfg1.N) : stAt W c (t.val + 1) = St.step t.val (blkX W c t) (blkT W c t) (stAt W c t.val) := by
  rw [stAt, dif_pos t.isLt]

theorem defs₀_body (t : Fin cfg1.N) : defs₀ (F := F) .tc cfg1.body (cfg1.bodyArgs t (cfg1.slots t)) = bodyAt1 t := by
  rfl

theorem body_obligation (c : Dev nD) : BodyObligation (dat W b c) (defs₀ (F := F)) Variants.none none Set.univ := fun t => by
  rw [bigSep_W1, bigSep_W1, defs₀_body]
  rw [show (dat W b c).owesAt none t.succ = (dat W b c).owesAt none t.castSucc from rfl,
    show (dat W b c).Φ t.castSucc = iprop(∃ st : St F, ⌜t.val ≠ 0 → st = stAt W c t.val⌝ ∗ scrP c st) from rfl,
    show (dat W b c).Φ t.succ = iprop(∃ st : St F, ⌜t.val + 1 ≠ 0 → st = stAt W c (t.val + 1)⌝ ∗ scrP c st) from rfl]
  by_cases h25 : t.val = 25
  · have hf : (cfg1.win 3).flush t = true := (flush1_3 t).mpr (by omega)
    have hi : cfg1.idle 3 (cfg1.grid.coords t) = false := by rw [idle_3, (at_last t).mpr h25]; rfl
    rw [hi]
    iintro ⟨⟨%st, %hst, HΦ⟩, Howes, ⟨%d0, H0⟩, ⟨%d1, H1⟩, ⟨%d2, H2⟩, ⟨%d3, H3⟩⟩
    obtain rfl := hst (by omega)
    rw [before_0, before_1, before_2]
    iapply (body_last c (grid1.coords t) _ _ _ _ _ _ _ _ (blkX W c t) (blkG W c t) (blkT W c t) (stAt W c t.val)
      (fun h => absurd ((at_first t).mp h) (by omega)) ((at_last t).mpr h25))
    isplitl [H0]; · iexact H0
    isplitl [H1]; · iexact H1
    isplitl [H2]; · iexact H2
    isplitl [H3]; · iexists _; iexact H3
    isplitl [HΦ]; · iexact HΦ
    rw [coord_val, ← stAt_succ]
    iintro ⟨H0, H1, H2, H3, HΦ⟩
    isplitl [HΦ]
    · iexists _; isplitr; swap; · iexact HΦ
      ipureintro; exact fun _ => rfl
    isplitl [Howes]; · iexact Howes
    isplitl [H0]; · iexact H0
    isplitl [H1]; · iexact H1
    isplitl [H2]; · iexact H2
    iexact H3
  have hf : (cfg1.win 3).flush t = false := by
    rw [← Bool.not_eq_true]; exact fun h => h25 (by have := (flush1_3 t).mp h; have h1 : t.val < grid1.N := t.isLt; rw [N_1] at h1; omega)
  have hi : cfg1.idle 3 (cfg1.grid.coords t) = true := by
    rw [idle_3, Bool.not_eq_true', beq_eq_false_iff_ne]; exact fun h => h25 ((at_last t).mp h)
  rw [hi, hf]
  have hc2 : ¬ k1_cond2 (grid1.coords t) = 1#1 := fun h => h25 ((at_last t).mp h)
  iintro ⟨⟨%st, %hst, HΦ⟩, Howes, ⟨%d0, H0⟩, ⟨%d1, H1⟩, ⟨%d2, H2⟩, ⟨%d3, H3⟩⟩
  rw [before_0, before_1, before_2]
  by_cases h0 : t.val = 0
  · iapply (body_first c (grid1.coords t) _ _ _ _ _ _ _ _ (blkX W c t) (blkG W c t) (blkT W c t) ((at_first t).mpr h0) hc2)
    isplitl [H0]; · iexact H0
    isplitl [H1]; · iexact H1
    isplitl [HΦ]; · iexists st; iexact HΦ
    rw [coord_val, show (St.start : St F) = stAt W c t.val by rw [h0]; rfl, ← stAt_succ]
    iintro ⟨H0, H1, HΦ⟩
    isplitl [HΦ]
    · iexists _; isplitr; swap; · iexact HΦ
      ipureintro; exact fun _ => rfl
    isplitl [Howes]; · iexact Howes
    isplitl [H0]; · iexact H0
    isplitl [H1]; · iexact H1
    isplitl [H2]; · iexact H2
    iexists d3; iexact H3
  · obtain rfl := hst h0
    iapply (body_middle c (grid1.coords t) _ _ _ _ _ _ _ _ (blkX W c t) (blkG W c t) (blkT W c t) (stAt W c t.val)
      (fun h => h0 ((at_first t).mp h)) hc2)
    isplitl [H0]; · iexact H0
    isplitl [H1]; · iexact H1
    isplitl [HΦ]; · iexact HΦ
    rw [coord_val, ← stAt_succ]
    iintro ⟨H0, H1, HΦ⟩
    isplitl [HΦ]
    · iexists _; isplitr; swap; · iexact HΦ
      ipureintro; exact fun _ => rfl
    isplitl [Howes]; · iexact Howes
    isplitl [H0]; · iexact H0
    isplitl [H1]; · iexact H1
    isplitl [H2]; · iexact H2
    iexists d3; iexact H3

/-! ## The call over the thread's state -/

abbrev adm : (p : Fin 1) → (pcfgs (F := F) p).Adm := fun p => (cfgs p).toPCfg_adm

/-- The program's one pipeline's proof data. -/
abbrev pdats : (p : Fin 1) → (c : Dev nD) → Dat τ (Elt F) (HIx 1) ℕ (UU F) ℕ (Pipeline.pin (pcfgs (F := F)) adm p) c := fun _ c => dat W b c

/-- The core owes nothing, its recorded waits at levels at most `b`. -/
def owesUpTo (c : Dev nD) : sProp 𝕄 := iprop(∃ Wd, ⌜(K (F := F)).WBelow (T c) Wd b⌝ ∗ owes (T c) 0 Wd)

theorem kitP : Pipeline.PLaunchFacts (nD := nD) (τ := τ) (pcfgs (F := F)) 0 := launch1.toP

theorem share_full (c : Dev nD) (w : Fin cfg1.W) : (dat W b c).share w = fullShare := by
  unfold Dat.share; split <;> rfl

theorem scr_in (c : Dev nD) : (Pipeline.scopedRest (Ix := HIx 1) (Name := ℕ) (U := UU F) (Lvl := ℕ) (Val := Elt F) spec1 c : sProp 𝕄)
    ⊢ iprop(∃ st : St F, scrP c st) := by
  rw [scopedRest1_eq]
  iintro ⟨⟨%f0, H0⟩, ⟨%f1, H1⟩, ⟨%f2, H2⟩, ⟨%f3, H3⟩⟩
  iexists (⟨f1, f2, f3⟩ : St F)
  unfold scrP
  isplitl [H0]
  · iexists f0; rw [owns_whole]; iexact H0
  rw [owns_whole, owns_whole, owns_whole]
  isplitl [H1]; · iexact H1
  isplitl [H2]; · iexact H2
  iexact H3

theorem scr_out (c : Dev nD) (st : St F) : (scrP c st : sProp 𝕄)
    ⊢ Pipeline.scopedRest (Ix := HIx 1) (Name := ℕ) (U := UU F) (Lvl := ℕ) (Val := Elt F) spec1 c := by
  rw [scopedRest1_eq]
  unfold scrP
  rw [owns_whole, owns_whole, owns_whole]
  simp only [owns_whole]
  iintro ⟨⟨%f0, H0⟩, H1, H2, H3⟩
  isplitl [H0]; · iexists f0; iexact H0
  isplitl [H1]; · iexists _; iexact H1
  isplitl [H2]; · iexists _; iexact H2
  iexists _; iexact H3

/-- The call, entered from the unscoped buffers at `W c` and left with the windows' arrays at what the pipeline leaves. -/
def reg : Pipeline.RegionSeg (Name := ℕ) (U := UU F) (pcfgs (F := F)) (adm (F := F)) (pdats W b) none (defs₀ (F := F)) Variants.none (K (F := F)).L (K (F := F)).lev 0 where
  win := (kitP (F := F)).win.to₀
  block_pos := (kitP (F := F)).block_pos
  stage_whole := (kitP (F := F)).stage_whole
  K := PEmpty
  osem k := k.elim
  ho := Pipeline.OwnSemFacts.none _
  hbody c := (body_obligation W b c).loose
  hwaits := Pipeline.hwaits_of_owed_zero (pcfgs (F := F)) (adm (F := F)) (pdats W b) none _ _ 0 fun _ _ => rfl
  pre c := iprop(StableHlo.held (c.tc : Thread nD τ) (Pipeline.ucRefs τ sig) (W c) ∗ owesUpTo b c)
  post c := iprop(StableHlo.held (c.tc : Thread nD τ) (Pipeline.ucRefs τ sig) (Pipeline.afterRegion (dat W b c) (W c)) ∗ owesUpTo b c)
  X _ := BI.emp
  Y _ := BI.emp
  Z c := StableHlo.held (c.tc : Thread nD τ) (Pipeline.ucRefs τ sig \ Pipeline.arrRefs spec1) (W c)
  hentry c := by
    rw [Pipeline.ownSems0_none, Pipeline.prefHeld_of_none _ rfl,
      Pipeline.arrays_held (pcfgs (F := F)) (adm (F := F)) (pdats W b) 0 (kitP (F := F)) c (share_full W b c) ((dat W b c).arrAt · 0) (W c) (fun _ => rfl),
      StableHlo.held_sub_split (c.tc : Thread nD τ) (Pipeline.arrRefs_sub_ucRefs spec1 winFacts1.arr_unscoped) (W c)]
    iintro ⟨⟨⟨Ha, Hu⟩, HO⟩, -, -⟩
    imodintro
    isplitl [Ha]; · iexact Ha
    isplitr; · iempintro
    isplitl [HO]
    · unfold owesUpTo Dat.owesAt Pipeline.owesWithin Dat.bound
      icases HO with ⟨%Wd, %hW, HO⟩
      iexists Wd; isplitr; · ipureintro; exact fun p hp => Or.inl (hW p hp)
      iexact HO
    isplitr; · iempintro
    iexact Hu
  hin c := by
    rw [show (pdats W b 0 c).Φ 0 = iprop(∃ st : St F, ⌜(0 : ℕ) ≠ 0 → st = stAt W c 0⌝ ∗ scrP c st) from rfl]
    iintro ⟨-, -, Hr⟩
    ihave H := (scr_in c) $$ Hr
    icases H with ⟨%st, H⟩
    iexists st; isplitr; · ipureintro; exact fun h => absurd rfl h
    iexact H
  hout c := by
    rw [Pipeline.ownSems0_none, show (pdats W b 0 c).Φ (Fin.last (Pipeline.pin (pcfgs (F := F)) (adm (F := F)) 0).N)
      = iprop(∃ st : St F, ⌜cfg1.N ≠ 0 → st = stAt W c cfg1.N⌝ ∗ scrP c st) from rfl]
    iintro ⟨%st, -, H⟩
    isplitr; · iempintro
    isplitr; · iempintro
    iapply (scr_out c st) $$ H
  hexit c := by
    rw [Pipeline.arrays_held (pcfgs (F := F)) (adm (F := F)) (pdats W b) 0 (kitP (F := F)) c (share_full W b c) ((dat W b c).arrAt · cfg1.N) (Pipeline.afterRegion (dat W b c) (W c))
        (fun w => (Pipeline.afterRegion_arr (dat W b c) (W c) winFacts1.arr_inj w).symm),
      StableHlo.held_sub_split (c.tc : Thread nD τ) (Pipeline.arrRefs_sub_ucRefs spec1 winFacts1.arr_unscoped) (Pipeline.afterRegion (dat W b c) (W c)),
      StableHlo.held_congr (c.tc : Thread nD τ) (S := Pipeline.ucRefs τ sig \ Pipeline.arrRefs spec1) (V := Pipeline.afterRegion (dat W b c) (W c)) (V' := W c)
        (Pipeline.afterRegion_off (dat W b c) (W c) _)]
    iintro ⟨Ha, HO, -, Hu⟩
    imodintro
    isplitl [Ha Hu]
    · isplitl [Ha]; · iexact Ha
      iexact Hu
    unfold owesUpTo Dat.owesAt Pipeline.owesWithin Dat.bound
    icases HO with ⟨%Wd, %hW, HO⟩
    iexists Wd; isplitr; swap; · iexact HO
    ipureintro
    intro p hp
    rcases hW hp with h | h
    · exact h
    · obtain ⟨w, s, rfl⟩ := h
      exact ((K (F := F)).lev_none _).le.trans (Nat.zero_le _)

end Cert.KernelIdeal.Run

end
-- ==== Proof.Main.lean ====
/-
  @main on the TensorCore and the launch: from any memory whose label words name rows of the table, the program ends with
  every buffer of the TensorCore at the value its operations and its two calls give it.
-/
module

public import proofs.«01_k».proof.Proof.ScTile
public import proofs.«01_k».proof.Proof.TcRegion
public import Idealize.ShloMosaic.Lib.SparseCore.Quiescent

@[expose] public section

noncomputable section

namespace Cert.KernelIdeal.Run

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.ShloMosaic.Pipeline (ucRefs sub_ucRefs afterRegion)
open Idealize.ShloMosaic.StableHlo (launchContents after held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ (UU F) ℕ
local notation:60 ℓ " ⇝[" I "]{" q "} " f:max " ⇒ " g:max " @ " W:max => willBeTo emb ℓ I q f g W

variable (m : (ℓ : Loc nD τ sig) → Buf (Elt F) ℓ) (ρ : Dev nD → PrngReg)

/-! ## The buffers' values along the program -/

/-- A TensorCore reference as a buffer of the device. -/
abbrev dr (b : Ref sig .tc) : DevRef τ sig := Proc.devRef .tc b

abbrev opI : HloOp τ sig (Elt F) := StableHlo.reshape main_arg3 main_v0 (rfl : (.i32 : EltTy) = .i32) shapeCasts_S1024_S1x1024
abbrev opC : HloOp τ sig (Elt F) := StableHlo.nullary main_cst (constant S_ .f32 0x41A00000#32)
abbrev op2 : HloOp τ sig (Elt F) := StableHlo.unary main_cst main_v2 (broadcastInDim S1024x128 ![] bcast_S_S1024x128 : (⟨S_, .f32⟩ : BufTy).Contents (Elt F) → (⟨S1024x128, .f32⟩ : BufTy).Contents (Elt F))
abbrev op3 : HloOp τ sig (Elt F) := StableHlo.binary main_arg0 main_v2 main_v3 (mulf : (⟨S1024x128, .f32⟩ : BufTy).Contents (Elt F) → (⟨S1024x128, .f32⟩ : BufTy).Contents (Elt F) → (⟨S1024x128, .f32⟩ : BufTy).Contents (Elt F))
abbrev op4 : HloOp τ sig (Elt F) := StableHlo.unary main_v3 main_v4 ((transpose S128x1024 [1, 0] · transposes_S1024x128_S128x1024_1_0) : (⟨S1024x128, .f32⟩ : BufTy).Contents (Elt F) → (⟨S128x1024, .f32⟩ : BufTy).Contents (Elt F))
abbrev op5 : HloOp τ sig (Elt F) := StableHlo.unary main_v4 main_v5 ((truncf .bf16 · bitsLt_bf16_f32) : (⟨S128x1024, .f32⟩ : BufTy).Contents (Elt F) → (⟨S128x1024, .bf16⟩ : BufTy).Contents (Elt F))
abbrev op6 : HloOp τ sig (Elt F) := StableHlo.unary main_v1 main_v6 ((transpose S128x1024 [1, 0] · transposes_S1024x128_S128x1024_1_0) : (⟨S1024x128, .f32⟩ : BufTy).Contents (Elt F) → (⟨S128x1024, .f32⟩ : BufTy).Contents (Elt F))
abbrev op7 : HloOp τ sig (Elt F) := StableHlo.unary main_v6 main_v7 ((truncf .bf16 · bitsLt_bf16_f32) : (⟨S128x1024, .f32⟩ : BufTy).Contents (Elt F) → (⟨S128x1024, .bf16⟩ : BufTy).Contents (Elt F))
abbrev opR : HloOp τ sig (Elt F) := StableHlo.reshape main_v8 main_v9 (rfl : (.f32 : EltTy) = .f32) shapeCasts_S1x1_S_

/-- Before the SparseCore call. -/
def V1 (d : Dev nD) : Valuation τ sig (Elt F) := opI.result (launchContents m d)
/-- The index row the call finds. -/
def fiOf (d : Dev nD) : Buf (Elt F) (iLoc d) := V1 m d (dr main_v0)
/-- After it: the gathered rows. -/
def V2 (d : Dev nD) : Valuation τ sig (Elt F) := Function.update (V1 m d) (dr main_v1) (G m (fiOf m) d)
/-- Before the TensorCore call. -/
def V3 (d : Dev nD) : Valuation τ sig (Elt F) := after [opC, op2, op3, op4, op5, op6, op7] (V2 m d)
/-- After it. -/
def V4 (d : Dev nD) : Valuation τ sig (Elt F) := afterRegion (dat (V3 m) 8 d) (V3 m d)
/-- At the end. -/
def V5 (d : Dev nD) : Valuation τ sig (Elt F) := opR.result (V4 m d)

/-! ## The SparseCore call's operands, out of the buffers and back -/

abbrev S3 : Finset (DevRef τ sig) := {dr main_arg4, dr main_v0, dr main_v1}

theorem S3_sub : S3 ⊆ ucRefs τ sig := by decide

theorem held_S3 (d : Dev nD) (V : Valuation τ sig (Elt F)) :
    (held (T d) S3 V : sProp 𝕄) = iprop((xLoc d ↦{fullShare} V (dr main_arg4)) ∗ (iLoc d ↦{fullShare} V (dr main_v0)) ∗ oLoc d ↦{fullShare} V (dr main_v1)) := by
  unfold held
  rw [SparseCore.bigSep_insert' (by decide), SparseCore.bigSep_insert' (by decide), bigSep_singleton]

theorem V1_of_ne (d : Dev nD) (b : DevRef τ sig) (h : b ≠ dr main_v0) : V1 m d b = m (d, b) := by
  unfold V1
  rw [HloOp.result_of_not_mem]
  intro hw
  exact h (Finset.mem_singleton.mp hw)

theorem st_eq (d : Dev nD) : (bigSep Finset.univ fun c : Fin ((K (F := F)).nCore 0) => (P m (fiOf m)).st 0 d c)
    = iprop(stP m (fiOf m) d 0 ∗ stP m (fiOf m) d 1) :=
  bigSep_univ_eq_bigSepL [(0 : Fin 2), (1 : Fin 2)] (by decide) (by decide) fun c : Fin 2 => stP m (fiOf m) d c
theorem dn_eq (d : Dev nD) : (bigSep Finset.univ fun c : Fin ((K (F := F)).nCore 0) => (P m (fiOf m)).dn 0 d c)
    = iprop(dnP m (fiOf m) d 0 ∗ dnP m (fiOf m) d 1) :=
  bigSep_univ_eq_bigSepL [(0 : Fin 2), (1 : Fin 2)] (by decide) (by decide) fun c : Fin 2 => dnP m (fiOf m) d c

/-- The operands, dealt to the two cores. -/
theorem deal (d : Dev nD) (ι : ℕ) : iprop(wmInv emb ι ∗ held (T d) S3 (V1 m d))
    ⊢ (|={Set.univ}=> bigSep Finset.univ fun c : Fin ((K (F := F)).nCore 0) => (P m (fiOf m)).st 0 d c : sProp 𝕄) := by
  rw [st_eq, held_S3, V1_of_ne m d (dr main_arg4) (by decide), V1_of_ne m d (dr main_v1) (by decide),
    show V1 m d (dr main_v0) = fiOf m d from rfl]
  iintro ⟨#Hwm, Hx, Hi, Ho⟩
  imod (pointsTo_castIn (emb := emb (F := F)) (ιwm := ι) (tgt m (fiOf m) d)) $$ [Ho] with Ho
  · isplitr; · iexact Hwm
    iexact Ho
  imodintro
  ihave Ho' := (wb_split Finset.univ (m (oLoc d)) (tgt m (fiOf m) d) ∅) $$ Ho
  ihave Hx' := (Entails.of_eq (pts_halves Finset.univ (m (xLoc d)))) $$ Hx
  ihave Hi' := (Entails.of_eq (pts_halves Finset.univ (fiOf m d))) $$ Hi
  icases Ho' with ⟨Ho0, Ho1⟩
  icases Hx' with ⟨Hx0, Hx1⟩
  icases Hi' with ⟨Hi0, Hi1⟩
  isplitl [Hx0 Hi0 Ho0]
  · isplitl [Hx0]; · iexact Hx0
    isplitl [Hi0]; · iexact Hi0
    iexact Ho0
  isplitl [Hx1]; · iexact Hx1
  isplitl [Hi1]; · iexact Hi1
  iexact Ho1

/-- The operands back, the gathered rows in the result. -/
theorem undeal (d : Dev nD) (ι : ℕ) : iprop(wmInv emb ι ∗ bigSep Finset.univ fun c : Fin ((K (F := F)).nCore 0) => (P m (fiOf m)).dn 0 d c)
    ⊢ (|={Set.univ}=> held (T d) S3 (V2 m d) : sProp 𝕄) := by
  rw [dn_eq, held_S3, show V2 m d (dr main_arg4) = m (xLoc d) from
      (Function.update_of_ne (by decide) _ _).trans (V1_of_ne m d (dr main_arg4) (by decide)),
    show V2 m d (dr main_v0) = fiOf m d from Function.update_of_ne (by decide) _ _,
    show V2 m d (dr main_v1) = G m (fiOf m) d from Function.update_self ..]
  iintro ⟨#Hwm, ⟨Hx0, Hi0, Ho0⟩, ⟨Hx1, Hi1, Ho1⟩⟩
  ihave Ho := (wb_join Finset.univ (m (oLoc d)) (tgt m (fiOf m) d) Finset.univ) $$ [Ho0 Ho1]
  · isplitl [Ho0] <;> iassumption
  imod (willBeTo_castOut_some (emb := emb (F := F)) (ιwm := ι) (g := G m (fiOf m) d)) $$ [Ho] with Ho
  · isplitr; · iexact Hwm
    iexact Ho
  rw [Finset.piecewise_univ]
  imodintro
  isplitl [Hx0 Hx1]
  · rw [pts_halves Finset.univ (m (xLoc d))]; isplitl [Hx0] <;> iassumption
  isplitl [Hi0 Hi1]
  · rw [pts_halves Finset.univ (fiOf m d)]; isplitl [Hi0] <;> iassumption
  iexact Ho

/-! ## The launch element of the ghost state -/

abbrev pp : Fin 1 → Pipeline.Cfg sig Λ₀ := Pipeline.pin (pcfgs (F := F)) (adm (F := F))
theorem phinj : Function.Injective (Pipeline.cellOf (nD := nD) (τ := τ) (pp (F := F))) := cellOf_inj

/-- What a TensorCore starts from. -/
def GG (d : Dev nD) : sProp 𝕄 :=
  iprop((∃ ι, wmInv emb ι) ∗ (bigSep Finset.univ fun p => Pipeline.cellsGhost (pp (F := F)) EP p d) ∗ bigSep Finset.univ fun p => Pipeline.toksInit (pp (F := F)) EP p d)

def u₀ : UU F := (initOf (K (F := F)).hsCells (K (F := F)).hsToks,
  (initOf (Pipeline.cells (pp (F := F)) phinj) (Pipeline.launchToks (pp (F := F)) phinj), (wm₀ nD τ sig (Elt F), 1)))

theorem own_wm : (BI.own (((Emb.inl : Emb (UW F) (UW F × Counters)).trans ((Emb.inr : Emb (UW F × Counters) (UP × (UW F × Counters))).trans (embR (A := UH)))) (wm₀ nD τ sig (Elt F))) : sProp 𝕄)
    = ownU (emb (F := F) (wm₀ nD τ sig (Elt F))) := rfl

theorem own_u₀ : (ownU (u₀ (F := F)) : sProp 𝕄)
    ⊢ iprop(BI.own (EH (initOf (K (F := F)).hsCells (K (F := F)).hsToks))
      ∗ BI.own (EP (initOf (Pipeline.cells (pp (F := F)) phinj) (Pipeline.launchToks (pp (F := F)) phinj))) ∗ ownU (emb (F := F) (wm₀ nD τ sig (Elt F)))) := by
  unfold u₀
  iintro Hu
  ihave H := (ownU_pair (initOf (K (F := F)).hsCells (K (F := F)).hsToks)
    (initOf (Pipeline.cells (pp (F := F)) phinj) (Pipeline.launchToks (pp (F := F)) phinj), (wm₀ nD τ sig (Elt F), (1 : Counters)))) $$ Hu
  icases H with ⟨HH, H⟩
  isplitl [HH]; · iexact HH
  ihave H' := (own_pair_emb (embR (A := UH)) (initOf (Pipeline.cells (pp (F := F)) phinj) (Pipeline.launchToks (pp (F := F)) phinj)) (wm₀ nD τ sig (Elt F), (1 : Counters))) $$ H
  icases H' with ⟨HP, H⟩
  isplitl [HP]; · iexact HP
  ihave H' := (own_pair_emb ((Emb.inr : Emb (UW F × Counters) (UP × (UW F × Counters))).trans (embR (A := UH))) (wm₀ nD τ sig (Elt F)) (1 : Counters)) $$ H
  icases H' with ⟨HW, -⟩
  iapply (Entails.of_eq own_wm) $$ HW

theorem hu₀ : (ownU (u₀ (F := F)) : sProp 𝕄)
    ⊢ |={Set.univ}=> iprop(BI.own (EH (initOf (K (F := F)).hsCells (K (F := F)).hsToks)) ∗ (bigSep Finset.univ fun d : Dev nD => GG d)
        ∗ bigSep Finset.univ fun thr : Thread nD τ => bigSep Finset.univ fun q : Fin 1 => (P m (fiOf m)).x q thr) := by
  iintro Hu
  ihave H := own_u₀ $$ Hu
  icases H with ⟨HH, HP, HW⟩
  imod (wmInv_alloc (emb := emb (F := F)) ⟨m, fun _ => 0, fun _ => default⟩) $$ HW with ⟨%ι, -, #Hwm⟩
  imod (Pipeline.fund_ghost (pp (F := F)) EP phinj) $$ HP with ⟨Hg, Ht⟩
  imodintro
  isplitl [HH]; · iexact HH
  isplitl [Hg Ht]
  · unfold GG
    rw [bigSep_sep', bigSep_sep']
    isplitr
    · iapply (bigSep_intro_persistent (R := iprop(∃ ι, wmInv (emb (F := F)) ι)) fun _ _ => BIBase.Entails.rfl)
      iexists ι; iexact Hwm
    isplitl [Hg] <;> iassumption
  iapply (bigSep_intro_persistent (R := iprop(∃ ι, wmInv (emb (F := F)) ι)) fun _ _ => bigSep_intro_persistent fun _ _ => BIBase.Entails.rfl)
  iexists ι; iexact Hwm

/-! ## @main -/

/-- An operation at the head of a program, over the unscoped buffers. -/
theorem hlo_step (d : Dev nD) (op : HloOp τ sig (Elt F)) (hS : op.bufs ⊆ StableHlo.tcRefs τ sig) (hf : op.fresh = ∅) (V : Valuation τ sig (Elt F))
    (Q : PUnit → sProp 𝕄) :
    iprop(boundary (T d) ∗ held (T d) (ucRefs τ sig) V ∗ ((boundary (T d) ∗ held (T d) (ucRefs τ sig) (op.result V)) -∗ Q ⟨⟩))
      ⊢ wp frame (wpE ((K (F := F)).defs (D (F := F))) 𝒱 (T d) none) Set.univ (hlo rfl op fun _ => .ret ⟨⟩) Q := by
  iintro ⟨Hb, Hh, Hk⟩
  iapply (StableHlo.wp_hlo_within 𝒱 (T d) none Set.univ (sub_ucRefs op hS) (V := V) hf) $$ [Hb Hh]
  · isplitl [Hb] <;> iassumption
  iintro H
  rw [wp_ret]; imodintro
  iapply Hk $$ H

theorem held_init (d : Dev nD) : (unscopedBufs d (fun b => m ((SparseCore.T d).loc b)) : sProp 𝕄) = held (T d) (ucRefs τ sig) (launchContents m d) := by
  unfold unscopedBufs StableHlo.held ucRefs StableHlo.tcRefs
  rw [Finset.filter_map, bigSep_map]
  rfl

theorem split (d : Dev nD) : (held (SparseCore.T d) (ucRefs τ sig) (opI.result (launchContents m d)) : sProp 𝕄)
    ⊢ iprop(held (SparseCore.T d) S3 (V1 m d) ∗ held (SparseCore.T d) (ucRefs τ sig \ S3) (V1 m d)) :=
  Entails.of_eq (StableHlo.held_sub_split (SparseCore.T d) S3_sub (V1 m d))

theorem rejoin (d : Dev nD) : iprop(held (SparseCore.T d) S3 (V2 m d) ∗ held (SparseCore.T d) (ucRefs τ sig \ S3) (V1 m d))
    ⊢ (held (SparseCore.T d) (ucRefs τ sig) (V2 m d) : sProp 𝕄) := by
  rw [StableHlo.held_sub_split (SparseCore.T d) S3_sub (V2 m d),
    StableHlo.held_congr (SparseCore.T d) (S := ucRefs τ sig \ S3) (V := V2 m d) (V' := V1 m d) fun b hb =>
      Function.update_of_ne (fun e => (Finset.mem_sdiff.mp hb).2 (by rw [e]; decide)) _ _]

/-- The TensorCore call, over the unscoped buffers and the handshake's state after the SparseCore call. -/
theorem tc_step (κ : GSem nD τ sig → ℕ) (d : Dev nD) (Q : PUnit → sProp 𝕄) :
    iprop((K (F := F)).ctx EH (P m (fiOf m)) κ ∗ boundary (SparseCore.T d) ∗ held (SparseCore.T d) (ucRefs τ sig) (V3 m d) ∗ (K (F := F)).tcSt EH d 1
        ∗ (bigSep Finset.univ fun p => Pipeline.cellsGhost (pp (F := F)) EP p d) ∗ (bigSep Finset.univ fun p => Pipeline.toksInit (pp (F := F)) EP p d)
        ∗ ((boundary (SparseCore.T d) ∗ held (SparseCore.T d) (ucRefs τ sig) (V4 m d) ∗ (K (F := F)).tcSt EH d 1) -∗ Q ⟨⟩))
      ⊢ wp frame (wpE ((K (F := F)).defs (D (F := F))) 𝒱 (SparseCore.T d) none) Set.univ
          (Prog.lift (.customCall (SparseCore.inner (Pipeline.entry (0 : Fin 1))) ())) Q := by
  have hw := (K (F := F)).wp_liftProg (D (F := F)) 𝒱 (SparseCore.T d) Set.univ (nD := nD) (Name := ℕ) (U := UU F) none
    (Prog.lift (.customCall (Pipeline.entry (0 : Fin 1)) ())) Q
  refine BIBase.Entails.trans ?_ hw
  have hr := Pipeline.RegionSeg.wp (pcfgs (F := F)) (adm (F := F)) (pdats (V3 m) 8) none phinj EP defs₀ Variants.none (K (F := F)).L (K (F := F)).lev
    (reg (V3 m) 8) d none (fun _ h => nomatch h) (fun _ => .ret ⟨⟩) Q
  refine BIBase.Entails.trans ?_ hr
  unfold SparseCore.Cfg.tcSt
  rw [(K (F := F)).Otc_end d (le_refl 1),
    show (reg (V3 m) 8).post d = iprop(held (SparseCore.T d) (ucRefs τ sig) (V4 m d) ∗ owesUpTo 8 d) from rfl,
    show (reg (V3 m) 8).pre d = iprop(held (SparseCore.T d) (ucRefs τ sig) (V3 m d) ∗ owesUpTo 8 d) from rfl]
  unfold owesUpTo
  iintro ⟨#Hctx, Hb, Hh, ⟨⟨%Wd, %hW, HO⟩, Hst⟩, Hg, Ht, Hk⟩
  isplitl [Hk Hst]
  · iintro ⟨Hb, Hh, ⟨%Wd, %hW, HO⟩⟩
    rw [wp_ret]; imodintro
    iapply Hk
    isplitl [Hb]; · iexact Hb
    isplitl [Hh]; · iexact Hh
    isplitl [HO]
    · iexists Wd; isplitr; swap; · iexact HO
      ipureintro; exact hW
    iexact Hst
  isplitl [Hb]; · iexact Hb
  isplitl [Hh HO]
  · isplitl [Hh]; · iexact Hh
    iexists Wd; isplitr; swap; · iexact HO
    ipureintro; exact hW
  isplitr; · iapply (SparseCore.Cfg.ctx_levAts κ) $$ Hctx
  isplitl [Hg]
  · iapply (Entails.of_eq (bigSep_univ_of_subsingleton (0 : Fin 1))) $$ Hg
  iapply (Entails.of_eq (bigSep_univ_of_subsingleton (0 : Fin 1))) $$ Ht

set_option maxRecDepth 16384 in
theorem hmain (κ : GSem nD τ sig → ℕ) (d : Dev nD) :
    iprop((K (F := F)).ctx EH (P m (fiOf m)) κ ∗ (K (F := F)).tcSt EH d 0 ∗ (K (F := F)).tcRes m ρ d ∗ GG d)
      ⊢ wp frame (wpE ((K (F := F)).defs (D (F := F))) 𝒱 (T d) none) Set.univ (main d)
          fun _ => iprop((K (F := F)).tcSt EH d 1 ∗ held (T d) (ucRefs τ sig) (V5 m d) ∗ (K (F := F)).tcEnd d) := by
  unfold SparseCore.Cfg.tcRes SparseCore.Cfg.tcEnd GG
  rw [held_init]
  simp only [main, wp_bind, wp_pure]
  iintro ⟨#Hctx, Hst, ⟨Hb, Hh, Hts, -⟩, ⟨%ι, #Hwm⟩, Hg, Ht⟩
  iapply (hlo_step d opI (StableHlo.reshape_bufs_sub ..) rfl (launchContents m d))
  isplitl [Hb]; · iexact Hb
  isplitl [Hh]; · iexact Hh
  iintro ⟨Hb, Hh⟩
  -- the SparseCore call
  ihave Hh' := (split m d) $$ Hh
  icases Hh' with ⟨H3, Hr⟩
  imod (deal m d ι) $$ [H3] with Hst3
  · isplitr; · iexact Hwm
    iexact H3
  iapply ((K (F := F)).wp_run (D (F := F)) 𝒱 (EH := EH) (P := P m (fiOf m)) κ d 0) $$ [Hst Hst3 Hb Hr Hts Hg Ht]
  isplitr; · iexact Hctx
  isplitl [Hst]; · iexact Hst
  isplitl [Hst3]; · iexact Hst3
  iintro ⟨Hst, Hdn⟩
  imod (undeal m d ι) $$ [Hdn] with H3
  · isplitr; · iexact Hwm
    iexact Hdn
  ihave Hh := (rejoin m d) $$ [H3 Hr]
  · isplitl [H3] <;> iassumption
  -- the host operations
  iapply (hlo_step d opC (StableHlo.nullary_bufs_sub ..) rfl _)
  isplitl [Hb]; · iexact Hb
  isplitl [Hh]; · iexact Hh
  iintro ⟨Hb, Hh⟩
  iapply (hlo_step d op2 (StableHlo.unary_bufs_sub ..) rfl _)
  isplitl [Hb]; · iexact Hb
  isplitl [Hh]; · iexact Hh
  iintro ⟨Hb, Hh⟩
  iapply (hlo_step d op3 (StableHlo.binary_bufs_sub ..) rfl _)
  isplitl [Hb]; · iexact Hb
  isplitl [Hh]; · iexact Hh
  iintro ⟨Hb, Hh⟩
  iapply (hlo_step d op4 (StableHlo.unary_bufs_sub ..) rfl _)
  isplitl [Hb]; · iexact Hb
  isplitl [Hh]; · iexact Hh
  iintro ⟨Hb, Hh⟩
  iapply (hlo_step d op5 (StableHlo.unary_bufs_sub ..) rfl _)
  isplitl [Hb]; · iexact Hb
  isplitl [Hh]; · iexact Hh
  iintro ⟨Hb, Hh⟩
  iapply (hlo_step d op6 (StableHlo.unary_bufs_sub ..) rfl _)
  isplitl [Hb]; · iexact Hb
  isplitl [Hh]; · iexact Hh
  iintro ⟨Hb, Hh⟩
  iapply (hlo_step d op7 (StableHlo.unary_bufs_sub ..) rfl _)
  isplitl [Hb]; · iexact Hb
  isplitl [Hh]; · iexact Hh
  iintro ⟨Hb, Hh⟩
  -- the TensorCore call
  iapply (tc_step m κ d)
  isplitr; · iexact Hctx
  isplitl [Hb]; · iexact Hb
  isplitl [Hh]; · iexact Hh
  isplitl [Hst]; · iexact Hst
  isplitl [Hg]; · iexact Hg
  isplitl [Ht]; · iexact Ht
  iintro ⟨Hb, Hh, Hst⟩
  iapply (hlo_step d opR (StableHlo.reshape_bufs_sub ..) rfl (V4 m d))
  isplitl [Hb]; · iexact Hb
  isplitl [Hh]; · iexact Hh
  iintro ⟨Hb, Hh⟩
  imodintro
  isplitl [Hst]; · iexact Hst
  isplitl [Hh]; · iexact Hh
  isplitl [Hb] <;> iassumption

/-! ## The run -/

/-- Every unscoped buffer of the TensorCore ends at its value. -/
def fq (d : Dev nD) (s' : Phys nD τ sig (Elt F)) : Prop := ∀ b ∈ ucRefs τ sig, s'.mem.mem (d, b) = V5 m d b

theorem hfin (d : Dev nD) (s' : Phys nD τ sig (Elt F)) : iprop(held (SparseCore.T d) (ucRefs τ sig) (V5 m d) ∗ SI s') ⊢ (⌜fq m d s'⌝ : sProp 𝕄) := by
  unfold StableHlo.held
  iintro ⟨H, HSI⟩
  ihave %h := (SI_pointsTo_bufs_agree (qs := fun _ => fullShare) (ucRefs τ sig)) $$ [HSI H]
  · isplitl [HSI]; · iexact HSI
    iexact H
  ipureintro
  exact h

theorem run [∀ e, Nonempty (Elt F e)] (hpre : PreOK (fiOf m)) :
    θ_run (Cert.KernelIdeal.defs (F := F)) (Cert.KernelIdeal.threads (F := F)) ⟨m, fun _ => 0, ρ⟩
      fun r => (∀ d : Dev nD, ∀ b ∈ ucRefs τ sig, r.2.mem (d, b) = V5 m d b) ∧ r.2.sem = fun _ => 0 :=
  SparseCore.Cfg.θ_run_sc_quiescent (K := K (F := F)) (D := D (F := F)) (𝒱 := 𝒱) (EH := EH) (P := P m (fiOf m)) (A := ∅) facts v₀
    (fun q hq => match q with | 0 => nomatch hq)
    (fun q _ => match q with | 0 => tileObl m (fiOf m) facts hpre)
    (fun q _ => match q with | 0 => SparseCore.Cfg.VecSplit.of_plain (vecSplit m (fiOf m)))
    m ρ main (fun d => GG d) (fun d => held (SparseCore.T d) (ucRefs τ sig) (V5 m d)) (u₀ (F := F)) (sep_elim_left.trans (hu₀ m)) (hmain m ρ) (fq m) (hfin m)
    _ (fun _ h hz => ⟨h, hz⟩)

end Cert.KernelIdeal.Run

end
-- ==== Proof.Frames.lean ====
/-
  The frames of the kernel: its arguments end as they began, at any float values; the preconditions give what the run asks of the labels.
-/
module

public import proofs.«01_k».proof.Proof.Main
public import proofs.«01_k».proof.Defs
public import Idealize.ShloMosaic.Lib.Pipeline.Value
public import Idealize.ShloMosaic.Lib.Quiescent
public import proofs.«01_k».proof.Proof.Gen.Kernel
public import proofs.«01_k».proof.Proof.Gen.ReferenceIdeal.Run
public import proofs.«01_k».proof.Proof.Gen.Pre_labels_in_storage

@[expose] public section

noncomputable section

namespace Cert.KernelIdeal.Run

open Cert.KernelIdeal Cert.KernelIdeal.Gen
open Idealize.ShloMosaic Idealize.SL.Sem
open Idealize.ShloMosaic.Pipeline (ucRefs afterRegion)
open Idealize.ShloMosaic.StableHlo (launchContents after)

variable {F : FTy → Type} [FloatOps F] [Named F]
variable (m : (ℓ : Loc nD τ sig) → Buf (Elt F) ℓ) (ρ : Dev nD → PrngReg)

/-! ## The arguments at the end -/

/-- A buffer no operation and neither call writes holds at the TensorCore call what the launch left. -/
theorem V3_of_ne (d : Dev nD) (b : DevRef τ sig) (h : b ∉ ([dr main_v0, dr main_v1, dr main_cst, dr main_v2, dr main_v3, dr main_v4, dr main_v5, dr main_v6, dr main_v7] : List (DevRef τ sig))) :
    V3 m d b = m (d, b) := by
  simp only [List.mem_cons, List.not_mem_nil, or_false, not_or] at h
  obtain ⟨h0, h1, hc, h2, h3, h4, h5, h6, h7⟩ := h
  unfold V3
  simp only [StableHlo.after_cons, StableHlo.after_nil]
  rw [HloOp.result_of_not_mem _ _ fun hw => h7 (Finset.mem_singleton.mp hw), HloOp.result_of_not_mem _ _ fun hw => h6 (Finset.mem_singleton.mp hw),
    HloOp.result_of_not_mem _ _ fun hw => h5 (Finset.mem_singleton.mp hw), HloOp.result_of_not_mem _ _ fun hw => h4 (Finset.mem_singleton.mp hw),
    HloOp.result_of_not_mem _ _ fun hw => h3 (Finset.mem_singleton.mp hw), HloOp.result_of_not_mem _ _ fun hw => h2 (Finset.mem_singleton.mp hw),
    HloOp.result_of_not_mem _ _ fun hw => hc (Finset.mem_singleton.mp hw)]
  exact (Function.update_of_ne h1 _ _).trans (V1_of_ne m d b h0)

theorem V5_of_ne (d : Dev nD) (r : Ref sig .tc) (h9 : dr r ≠ dr main_v9) (hw : ∀ w, Pipeline.arrRef spec1 w = r → (cfg1.win w).isOut = false) :
    V5 m d (dr r) = V3 m d (dr r) := by
  unfold V5
  rw [HloOp.result_of_not_mem _ _ fun hw => h9 (Finset.mem_singleton.mp hw)]
  exact Pipeline.afterRegion_keeps _ _ winFacts1.arr_inj (fun _ => rfl) r hw

/-- The five arguments. -/
abbrev args : List (Ref sig .tc) := [main_arg0, main_arg1, main_arg2, main_arg3, main_arg4]

theorem V3_arg (d : Dev nD) : ∀ r ∈ args, V3 m d (dr r) = m (d, dr r) := fun r hr =>
  V3_of_ne m d (dr r) ((by decide : ∀ r ∈ args, dr r ∉ ([dr main_v0, dr main_v1, dr main_cst, dr main_v2, dr main_v3, dr main_v4, dr main_v5, dr main_v6, dr main_v7] : List (DevRef τ sig))) r hr)

theorem V5_arg (d : Dev nD) (r : Ref sig .tc) (hr : r ∈ args) : V5 m d (dr r) = m (d, dr r) :=
  (V5_of_ne m d r ((by decide : ∀ r ∈ args, dr r ≠ dr main_v9) r hr)
    ((by decide : ∀ r ∈ args, ∀ w, Pipeline.arrRef spec1 w = r → (cfg1.win w).isOut = false) r hr)).trans (V3_arg m d r hr)

/-- The run at the arguments and the result. -/
theorem run_args [∀ e, Nonempty (Elt F e)] (hpre : PreOK (fiOf m)) :
    θ_run (Cert.KernelIdeal.defs (F := F)) (Cert.KernelIdeal.threads (F := F)) ⟨m, fun _ => 0, ρ⟩ fun r =>
      (∀ c : Dev nD, r.2.mem (c, dr main_v9) = V5 m c (dr main_v9) ∧ r.2.mem (c, dr main_arg0) = m (c, dr main_arg0) ∧ r.2.mem (c, dr main_arg1) = m (c, dr main_arg1)
        ∧ r.2.mem (c, dr main_arg2) = m (c, dr main_arg2) ∧ r.2.mem (c, dr main_arg3) = m (c, dr main_arg3) ∧ r.2.mem (c, dr main_arg4) = m (c, dr main_arg4))
      ∧ r.2.sem = fun _ => 0 :=
  (θ_run Cert.KernelIdeal.defs _ _).mono (fun _ h => ⟨fun c => ⟨h.1 c _ (by decide),
    (h.1 c _ (by decide)).trans (V5_arg m c main_arg0 (by decide)), (h.1 c _ (by decide)).trans (V5_arg m c main_arg1 (by decide)),
    (h.1 c _ (by decide)).trans (V5_arg m c main_arg2 (by decide)), (h.1 c _ (by decide)).trans (V5_arg m c main_arg3 (by decide)),
    (h.1 c _ (by decide)).trans (V5_arg m c main_arg4 (by decide))⟩, h.2⟩) (run m ρ hpre)

/-! ## The labels -/

/-- Coordinate `b` of a vector of 1024. -/
def at1 (b : Fin 1024) : S1024.Idx := fun a => ⟨b.val, by obtain rfl : a = 0 := Subsingleton.elim _ _; exact b.isLt⟩

/-- Word `b` of the index row is label `b`. -/
theorem word_fiOf (d : Dev nD) (b : Fin 1024) : word (fiOf m) d b = (m (d, dr main_arg3) : S1024.Idx → BitVec 32) (at1 b) := by
  unfold word fiOf V1
  rw [StableHlo.reshape_result]
  exact shapeCast_apply _ shapeCasts_S1024_S1x1024 _ _ (by simp [Shape.rowMajor_val_one, Shape.rowMajor_val_two, Shape.pair, at1])

/-- A word at least zero and below the table's row count, both signed, is below it unsigned. -/
theorem lt_of_flags (v : BitVec 32) (e : IntOp.andi (IntOp.cmpi .sge v 0#32) (IntOp.cmpi .slt v 100000#32) = 1#1) : v.toNat < 100000 := by
  have both (p q : Bool) (h : IntOp.andi (BitVec.ofBool p) (BitVec.ofBool q) = 1#1) : p = true ∧ q = true := by
    cases p <;> cases q <;> first | exact ⟨rfl, rfl⟩ | exact absurd h (by decide)
  obtain ⟨h0, h1⟩ := both _ _ e
  simp only [BitVec.sle_eq_decide, BitVec.slt_eq_decide, decide_eq_true_eq, BitVec.toInt_eq_toNat_cond, BitVec.toNat_ofNat, Nat.reducePow, Nat.reduceMod] at h0 h1
  omega

theorem ok_of_labels (h : ∀ d : Dev nD, Cert.Pre_labels_in_storage.fn (F := F) (m (d, dr main_arg0)) (m (d, dr main_arg1)) (m (d, dr main_arg2)) (m (d, dr main_arg3)) (m (d, dr main_arg4)) = fun _ => 1#1) :
    PreOK (fiOf m) := by
  intro d b
  rw [word_fiOf]
  exact lt_of_flags _ (congrFun (h d) (at1 b))

/-! ## The frames -/

theorem frame : Cert.quiescent_KernelIdeal := fun m ρ hpre =>
  (θ_run Cert.KernelIdeal.defs _ _).mono (fun _ h => ⟨fun c => (h.1 c).2, h.2⟩) (run_args m ρ (ok_of_labels m hpre))

end Cert.KernelIdeal.Run

/-! ## The printed kernel: the same program, its mask the plain constant -/

namespace Cert.Kernel.Run

open Idealize.ShloMosaic Idealize.SL.Sem

/-- At machine words a named constant is the constant the program was written with. -/
@[reducible] def plain : Named Bits := ⟨fun _ _ {φ} b => Scalar.ofBits φ b⟩

theorem defs₀_tc (a) : (letI := plain; Cert.KernelIdeal.defs₀ (F := Bits) .tc 1 a) = Cert.Kernel.defs₀ (F := Bits) .tc 1 a := rfl
theorem defs₀_sc (c s a) : (letI := plain; Cert.KernelIdeal.defs₀ (F := Bits) (.scVector c s) 0 a) = Cert.Kernel.defs₀ (F := Bits) (.scVector c s) 0 a := rfl

theorem defs₀_eq : (letI := plain; Cert.KernelIdeal.defs₀ (F := Bits)) = Cert.Kernel.defs₀ (F := Bits) := by
  funext p ℓ a
  match p, ℓ, a with
  | .scVector c s, (0 : Fin 2), a => exact defs₀_sc c s a
  | .scVector c s, (1 : Fin 2), a => rfl
  | .tc, (0 : Fin 2), a => rfl
  | .tc, (1 : Fin 2), a => exact defs₀_tc a
  | .scScalar c, (0 : Fin 2), a => rfl
  | .scScalar c, (1 : Fin 2), a => rfl

theorem defs_eq : (letI := plain; Cert.KernelIdeal.defs (F := Bits)) = Cert.Kernel.defs (F := Bits) :=
  congrArg (fun D : Defs Cert.Kernel.nD Cert.Kernel.τ Cert.Kernel.sig (Elt Bits) Cert.Kernel.Λ₀ =>
    (Cert.Kernel.sc (F := Bits)).defs (Pipeline.defs (Cert.Kernel.pcfgs (F := Bits)) D)) defs₀_eq

theorem threads_eq : (letI := plain; Cert.KernelIdeal.threads (F := Bits)) = Cert.Kernel.threads (F := Bits) := rfl

theorem frame : Cert.quiescent_Kernel := fun m ρ hpre => by
  letI := plain
  have h := Cert.KernelIdeal.Run.run_args (F := Bits) m ρ (Cert.KernelIdeal.Run.ok_of_labels m hpre)
  rw [← defs_eq, ← threads_eq]
  exact (θ_run Cert.KernelIdeal.defs _ _).mono (fun _ h => ⟨fun c => (h.1 c).2, h.2⟩) h

end Cert.Kernel.Run

/-! ## The reference -/

namespace Cert.ReferenceIdeal.Run

open Idealize.ShloMosaic Idealize.SL.Sem

/-- The reference has no semaphore. -/
theorem no_sems : sig.nSem + sig.nDmaSem = 0 := rfl

theorem frame : Cert.quiescent_ReferenceIdeal := fun m ρ _ =>
  (θ_run Cert.ReferenceIdeal.defs _ _).mono (fun r h => ⟨fun c => (h c).2, sem_eq_zero_of_no_sems no_sems r.2⟩) (Cert.ReferenceIdeal.Value.run (F := Ideal) m ρ)

end Cert.ReferenceIdeal.Run

end
-- ==== Proof.ValueMath.lean ====
/-
  The running maximum and the running sum of exponentials over the extended reals: what one pass over a block of scores
  leaves, whatever the order the blocks come in.
-/
module

public import Idealize.ShloMosaic.PureOps.Ideal
public import Idealize.ShloMosaic.Lib.IdealHost

@[expose] public section

namespace Cert.Value

open Idealize.ShloMosaic

/-! ## Sums and maxima of real numbers -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of a value other than `⊤` and of at least one real number is a real number. -/
theorem max_fold_real {n : ℕ} (hn : 0 < n) (m : EReal) (hm : m ≠ ⊤) (x : Fin n → ℝ) :
    ∃ μ : ℝ, max m (Finset.fold max ⊥ (fun i => ((x i : ℝ) : EReal)) Finset.univ) = μ := by
  have hlt : Finset.fold max ⊥ (fun i => ((x i : ℝ) : EReal)) Finset.univ < ⊤ :=
    (Finset.fold_max_lt _).mpr ⟨bot_lt_top, fun i _ => EReal.coe_lt_top _⟩
  have hgt : (⊥ : EReal) < Finset.fold max ⊥ (fun i => ((x i : ℝ) : EReal)) Finset.univ :=
    (Finset.lt_fold_max _).mpr (.inr ⟨⟨0, hn⟩, Finset.mem_univ _, EReal.bot_lt_coe _⟩)
  refine ⟨_, (EReal.coe_toReal ?_ ?_).symm⟩
  · exact (max_lt (lt_top_iff_ne_top.mpr hm) hlt).ne
  · exact (lt_max_of_lt_right hgt).ne'

/-! ## One pass -/

/-- `m` and `s` are a maximum and a sum of exponentials relative to it, of scores whose exponentials add up to `Z`; both
    still unset only where no score has come yet. -/
def Holds (Z : ℝ) (m s : EReal) : Prop := (m = ⊥ ∧ s = 0 ∧ Z = 0) ∨ ∃ μ : ℝ, m = μ ∧ s = ((Z * Real.exp (-μ) : ℝ) : EReal)

theorem Holds.ne_top {Z : ℝ} {m s : EReal} (h : Holds Z m s) : m ≠ ⊤ := by
  rcases h with ⟨rfl, -, -⟩ | ⟨μ, rfl, -⟩
  · exact bot_ne_top
  · exact EReal.coe_ne_top _

theorem Holds.start : Holds 0 ⊥ 0 := .inl ⟨rfl, rfl, rfl⟩

/-- The old sum, rescaled to a new maximum that is real. -/
theorem Holds.rescale {Z : ℝ} {m s : EReal} (h : Holds Z m s) (μ' : ℝ) :
    s * Ideal.exp (m - (μ' : EReal)) = ((Z * Real.exp (-μ') : ℝ) : EReal) := by
  rcases h with ⟨rfl, rfl, rfl⟩ | ⟨μ, rfl, rfl⟩
  · simp
  · rw [← EReal.coe_sub, Ideal.exp_coe, ← EReal.coe_mul, mul_assoc, ← Real.exp_add]
    congr 3; ring

theorem sum_exp {n : ℕ} (x : Fin n → ℝ) (μ : ℝ) :
    ∑ i, Ideal.exp (((x i : ℝ) : EReal) - (μ : EReal)) = (((∑ i, Real.exp (x i)) * Real.exp (-μ) : ℝ) : EReal) := by
  rw [Finset.sum_mul, ← coe_sum]
  refine Finset.sum_congr rfl fun i _ => ?_
  rw [← EReal.coe_sub, Ideal.exp_coe, ← Real.exp_add, sub_eq_add_neg]

/-- A pass over a block of real scores counts them all. -/
theorem Holds.pass {Z : ℝ} {m s : EReal} {n : ℕ} (hn : 0 < n) (h : Holds Z m s) (x : Fin n → ℝ) :
    Holds (Z + ∑ i, Real.exp (x i)) (max m (Finset.fold max ⊥ (fun i => ((x i : ℝ) : EReal)) Finset.univ))
      (s * Ideal.exp (m - max m (Finset.fold max ⊥ (fun i => ((x i : ℝ) : EReal)) Finset.univ))
        + ∑ i, Ideal.exp (((x i : ℝ) : EReal) - max m (Finset.fold max ⊥ (fun i => ((x i : ℝ) : EReal)) Finset.univ))) := by
  obtain ⟨μ, hμ⟩ := max_fold_real hn m h.ne_top x
  rw [hμ, h.rescale, sum_exp, ← EReal.coe_add, ← add_mul]
  exact .inr ⟨μ, rfl, rfl⟩

/-- A pass whose scores are not counted only moves the maximum. -/
theorem Holds.pass_off {Z : ℝ} {m s : EReal} {n : ℕ} (hn : 0 < n) (h : Holds Z m s) (x : Fin n → ℝ) :
    Holds Z (max m (Finset.fold max ⊥ (fun i => ((x i : ℝ) : EReal)) Finset.univ))
      (s * Ideal.exp (m - max m (Finset.fold max ⊥ (fun i => ((x i : ℝ) : EReal)) Finset.univ)) + 0) := by
  obtain ⟨μ, hμ⟩ := max_fold_real hn m h.ne_top x
  rw [hμ, h.rescale, add_zero]
  exact .inr ⟨μ, rfl, rfl⟩

/-- A pass over scores that are all `⊥`, before any other. -/
theorem Holds.pass_bot {n : ℕ} :
    Holds 0 (max ⊥ (Finset.fold max ⊥ (fun _ : Fin n => (⊥ : EReal)) Finset.univ))
      (0 * Ideal.exp (⊥ - max ⊥ (Finset.fold max ⊥ (fun _ : Fin n => (⊥ : EReal)) Finset.univ))
        + ∑ _i : Fin n, Ideal.exp (⊥ - max ⊥ (Finset.fold max ⊥ (fun _ : Fin n => (⊥ : EReal)) Finset.univ))) := by
  have h : Finset.fold max ⊥ (fun _ : Fin n => (⊥ : EReal)) Finset.univ = ⊥ := by
    rw [← le_bot_iff, Finset.fold_max_le]
    exact ⟨le_rfl, fun _ _ => le_rfl⟩
  rw [h]
  exact .inl ⟨max_self _, by simp, rfl⟩

/-- The logarithm of the sum, put back on the maximum. -/
theorem Holds.log {Z : ℝ} {m s : EReal} (hZ : 0 < Z) (h : Holds Z m s) : Ideal.log s + m = ((Real.log Z : ℝ) : EReal) := by
  rcases h with ⟨-, -, rfl⟩ | ⟨μ, rfl, rfl⟩
  · exact absurd hZ (lt_irrefl _)
  · have hp : 0 < Z * Real.exp (-μ) := mul_pos hZ (Real.exp_pos _)
    rw [Ideal.log_coe, if_neg (not_le.mpr hp), Real.log_mul hZ.ne' (Real.exp_pos _).ne', Real.log_exp, ← EReal.coe_add]
    congr 1; ring

/-! ## Joining the blocks -/

/-- A block's exponentials, added to those of the rows before it. -/
theorem sum_block (f : ℕ → ℝ) (a n : ℕ) : (∑ i ∈ Finset.range a, f i) + ∑ r : Fin n, f (a + r.val) = ∑ i ∈ Finset.range (a + n), f i := by
  rw [Finset.sum_range_add, Finset.sum_range (fun i => f (a + i))]

/-! ## The loss over the real numbers -/

/-- The score of row `i` of the table against sample `b`: their product, divided by the temperature 1/20. -/
noncomputable def score (f : Fin 1024 → Fin 128 → ℝ) (s : ℕ → Fin 128 → ℝ) (b : Fin 1024) (i : ℕ) : ℝ := (∑ k, f b k * s i k) * 20

variable (sc : Fin 1024 → ℕ → ℝ)

/-- The exponentials of a sample's first `n` scores, added up. -/
noncomputable def Zof (b : Fin 1024) (n : ℕ) : ℝ := ∑ i ∈ Finset.range n, Real.exp (sc b i)

theorem Zof_add (b : Fin 1024) (a : ℕ) : Zof sc b a + ∑ r : Fin 2000, Real.exp (sc b (a + r.val)) = Zof sc b (a + 2000) :=
  sum_block (fun i => Real.exp (sc b i)) a 2000

theorem Zof_pos (b : Fin 1024) : 0 < Zof sc b 100000 :=
  Finset.sum_pos (fun _ _ => Real.exp_pos _) ⟨0, Finset.mem_range.mpr (by omega)⟩

/-- The loss of scores `sc` where sample `b`'s label is the row `lab b`. -/
noncomputable def lossR (lab : Fin 1024 → ℕ) : ℝ := (∑ b : Fin 1024, (Real.log (Zof sc b 100000) - sc b (lab b))) * (1 / 1024)

/-! ## The float constants -/

theorem bits_neg_inf : Ideal.ofBits .f32 0xFF800000#32 = ⊥ := by
  simp [Ideal.ofBits, Ideal.ieee, -EReal.coe_mul]

theorem bits_20 : Ideal.ofBits .f32 0x41A00000#32 = ((20 : ℝ) : EReal) := by
  simp [Ideal.ofBits, Ideal.ieee, -EReal.coe_mul]
  norm_num

theorem bits_1024 : Ideal.ofBits .f32 0x44800000#32 = ((1024 : ℝ) : EReal) := by
  simp [Ideal.ofBits, Ideal.ieee, -EReal.coe_mul]
  norm_num

theorem bits_inv_1024 : Ideal.ofBits .f32 0x3A800000#32 = ((1 / 1024 : ℝ) : EReal) := by
  simp [Ideal.ofBits, Ideal.ieee, -EReal.coe_mul]
  norm_num

end Cert.Value
-- ==== Proof.ValueStep.lean ====
/-
  The TensorCore kernel's payloads at the ideal floats, read at an index, and what the carried values hold after each
  grid point.
-/
module

public import proofs.«01_k».proof.Proof.TcRegion
public import proofs.«01_k».proof.Proof.ValueMath
public import Idealize.ShloMosaic.Lib.Pointwise

@[expose] public section

noncomputable section

namespace Cert.KernelIdeal.Run

open Cert.KernelIdeal Cert.KernelIdeal.Gen Cert.Value
open Idealize.ShloMosaic

set_option maxRecDepth 16384

/-! ## The payloads at an index -/

/-- The maximum of a column of scores. -/
def colMax (B : Vec Ideal S2000x1024 .f32) (b : Fin 1024) : EReal := Finset.fold max ⊥ (fun r : Fin 2000 => B (ix2 r b)) Finset.univ

theorem pay1_at (b : Fin 1024) : (k1_pay1 : FVec Ideal S1x1024 .f32) (ix2 0 b) = ⊥ := by
  pointwise [k1_pay1]
  exact bits_neg_inf

theorem pay2_at (b : Fin 1024) : (k1_pay2 : FVec Ideal S1x1024 .f32) (ix2 0 b) = (0 : EReal) := by
  pointwise [k1_pay2]

theorem pay3_at (r : Fin 2000) (b : Fin 1024) : (k1_pay3 : FVec Ideal S2000x1024 .f32) (ix2 r b) = (⊥ : EReal) := by
  pointwise [k1_pay3]
  exact IdealRules.named_const.ideal_named_scalar κ "mask" _ ⊥ rfl

theorem halfA_at (X : Vec Ideal S128x1024 .bf16) (T : Vec Ideal S4000x128 .f32) (r : Fin 2000) (b : Fin 1024) :
    halfA X T (ix2 r b) = ∑ k : Fin 128, T (ix2 ⟨r.val, by omega⟩ k) * X (ix2 k b) := by
  pointwise [halfA, k1_pay6, k1_pay4, k1_pay5]

theorem halfB_at (X : Vec Ideal S128x1024 .bf16) (T : Vec Ideal S4000x128 .f32) (r : Fin 2000) (b : Fin 1024) :
    halfB X T (ix2 r b) = ∑ k : Fin 128, T (ix2 ⟨2000 + r.val, by omega⟩ k) * X (ix2 k b) := by
  pointwise [halfB, k1_pay11, k1_pay4, k1_pay5]

theorem pay9_at (m : Vec Ideal S1x1024 .f32) (B : Vec Ideal S2000x1024 .f32) (b : Fin 1024) :
    k1_pay9 m B (ix2 0 b) = max (m (ix2 0 b)) (colMax B b) := by
  pointwise [k1_pay9, k1_pay7, colMax]
  rw [bits_neg_inf]

theorem pay13_at (m : Vec Ideal S1x1024 .f32) (B : Vec Ideal S2000x1024 .f32) (b : Fin 1024) :
    k1_pay13 m B (ix2 0 b) = max (m (ix2 0 b)) (colMax B b) := by
  pointwise [k1_pay13, k1_pay12, colMax]
  rw [bits_neg_inf]

theorem pay10_at (m s : Vec Ideal S1x1024 .f32) (B : Vec Ideal S2000x1024 .f32) (b : Fin 1024) :
    k1_pay10 (k1_pay8 m s B) (ix2 0 b) = s (ix2 0 b) * Ideal.exp (m (ix2 0 b) - max (m (ix2 0 b)) (colMax B b))
      + ∑ r : Fin 2000, Ideal.exp (B (ix2 r b) - max (m (ix2 0 b)) (colMax B b)) := by
  pointwise [k1_pay10, k1_pay8, k1_pay7, colMax]
  rw [bits_neg_inf]

theorem pay14_at (j : BitVec 32) (m s : Vec Ideal S1x1024 .f32) (B : Vec Ideal S2000x1024 .f32) (b : Fin 1024) :
    k1_pay14 j m s B (ix2 0 b) = s (ix2 0 b) * Ideal.exp (m (ix2 0 b) - max (m (ix2 0 b)) (colMax B b))
      + Scalar.select (Scalar.cmpi .slt j 25#32) (∑ r : Fin 2000, Ideal.exp (B (ix2 r b) - max (m (ix2 0 b)) (colMax B b))) (0 : EReal) := by
  pointwise [k1_pay14, k1_pay12, colMax]
  rw [bits_neg_inf]

theorem lossOf_at (X G : Vec Ideal S128x1024 .bf16) (st : St Ideal) :
    lossOf X G st (ix2 0 0) = (∑ b : Fin 1024, (Ideal.log (st.sm (ix2 0 b)) + st.mx (ix2 0 b) - ∑ k : Fin 128, X (ix2 k b) * G (ix2 k b)))
      * ((1 / 1024 : ℝ) : EReal) := by
  pointwise [lossOf, k1_pay15]
  rw [bits_inv_1024, Fin.sum_univ_one]

/-! ## The carried values after each point -/

variable (sc : Fin 1024 → ℕ → ℝ)

/-- The values carried after point `n`: the scores of the rows below `4000 * n + 2000` are counted, those of the next 2000 rows wait. -/
def Inv (n : ℕ) (st : St Ideal) : Prop := ∀ b : Fin 1024,
  Holds (Zof sc b (4000 * n + 2000)) (st.mx (ix2 0 b)) (st.sm (ix2 0 b))
  ∧ ∀ r : Fin 2000, st.B (ix2 r b) = ((sc b (4000 * n + 2000 + r.val) : ℝ) : EReal)

/-- The first half of a block of scores that begins at row `o`, and its second half. -/
def HalfA (o : ℕ) (X : Vec Ideal S128x1024 .bf16) (T : Vec Ideal S4000x128 .f32) : Prop :=
  ∀ (r : Fin 2000) (b : Fin 1024), halfA X T (ix2 r b) = ((sc b (o + r.val) : ℝ) : EReal)
def HalfB (o : ℕ) (X : Vec Ideal S128x1024 .bf16) (T : Vec Ideal S4000x128 .f32) : Prop :=
  ∀ (r : Fin 2000) (b : Fin 1024), halfB X T (ix2 r b) = ((sc b (o + 2000 + r.val) : ℝ) : EReal)

theorem gate_on : ∀ j : Fin 25, Scalar.cmpi .slt (BitVec.ofNat 32 j.val) 25#32 = 1#1 := by decide
theorem gate_off : Scalar.cmpi .slt (BitVec.ofNat 32 25) 25#32 = 0#1 := by decide

/-- The second reduction of a point below 25 counts the first half of its block. -/
theorem step_counts (j o : ℕ) (hj : j < 25) (X : Vec Ideal S128x1024 .bf16) (T : Vec Ideal S4000x128 .f32) (hA : HalfA sc o X T) (st : St Ideal) (b : Fin 1024)
    (h : Holds (Zof sc b o) (k1_pay9 st.mx st.B (ix2 0 b)) (k1_pay10 (k1_pay8 st.mx st.sm st.B) (ix2 0 b))) :
    Holds (Zof sc b (o + 2000)) ((St.step j X T st).mx (ix2 0 b)) ((St.step j X T st).sm (ix2 0 b)) := by
  have hp := h.pass (n := 2000) (by omega) (fun r => sc b (o + r.val))
  rw [Zof_add] at hp
  have hm : colMax (halfA X T) b = Finset.fold max ⊥ (fun r : Fin 2000 => ((sc b (o + r.val) : ℝ) : EReal)) Finset.univ := by
    unfold colMax
    simp only [hA _ b]
  simp only [St.step]
  rw [pay13_at, pay14_at, gate_on ⟨j, hj⟩, ValueIdx.select_one, hm]
  simp only [hA _ b]
  exact hp

/-- The first reduction of a point counts the scores that wait. -/
theorem waiting (n : ℕ) (st : St Ideal) (h : Inv sc n st) (b : Fin 1024) :
    Holds (Zof sc b (4000 * n + 4000)) (k1_pay9 st.mx st.B (ix2 0 b)) (k1_pay10 (k1_pay8 st.mx st.sm st.B) (ix2 0 b)) := by
  obtain ⟨h1, h2⟩ := h b
  have hp := h1.pass (n := 2000) (by omega) (fun r => sc b (4000 * n + 2000 + r.val))
  rw [Zof_add] at hp
  have hm : colMax st.B b = Finset.fold max ⊥ (fun r : Fin 2000 => ((sc b (4000 * n + 2000 + r.val) : ℝ) : EReal)) Finset.univ := by
    unfold colMax
    simp only [h2]
  rw [pay9_at, pay10_at, hm]
  simp only [h2]
  exact hp

theorem step_first (X : Vec Ideal S128x1024 .bf16) (T : Vec Ideal S4000x128 .f32) (hA : HalfA sc 0 X T) (hB : HalfB sc 0 X T) :
    Inv sc 0 (St.step 0 X T St.start) := by
  intro b
  refine ⟨step_counts sc 0 0 (by omega) X T hA St.start b ?_, fun r => ?_⟩
  · rw [pay9_at, pay10_at]
    have hm : colMax (St.start (F := Ideal)).B b = Finset.fold max ⊥ (fun _ : Fin 2000 => (⊥ : EReal)) Finset.univ := by
      unfold colMax
      simp only [St.start, pay3_at]
    rw [hm]
    simp only [St.start, pay1_at, pay2_at, pay3_at]
    have h0 : Zof sc b 0 = 0 := Finset.sum_range_zero _
    rw [h0]
    exact Holds.pass_bot
  · exact (hB r b).trans (by simp)

theorem step_mid (n : ℕ) (hn : n + 1 < 25) (X : Vec Ideal S128x1024 .bf16) (T : Vec Ideal S4000x128 .f32)
    (hA : HalfA sc (4000 * (n + 1)) X T) (hB : HalfB sc (4000 * (n + 1)) X T) (st : St Ideal) (h : Inv sc n st) :
    Inv sc (n + 1) (St.step (n + 1) X T st) := by
  intro b
  refine ⟨step_counts sc (n + 1) (4000 * (n + 1)) hn X T hA st b ?_, fun r => hB r b⟩
  exact waiting sc n st h b

/-- The last point counts the scores that wait, and none of its own block. -/
theorem step_last (o : ℕ) (X : Vec Ideal S128x1024 .bf16) (T : Vec Ideal S4000x128 .f32) (hA : HalfA sc o X T) (st : St Ideal) (h : Inv sc 24 st) (b : Fin 1024) :
    Holds (Zof sc b 100000) ((St.step 25 X T st).mx (ix2 0 b)) ((St.step 25 X T st).sm (ix2 0 b)) := by
  have hp := (waiting sc 24 st h b).pass_off (n := 2000) (by omega) (fun r => sc b (o + r.val))
  have hm : colMax (halfA X T) b = Finset.fold max ⊥ (fun r : Fin 2000 => ((sc b (o + r.val) : ℝ) : EReal)) Finset.univ := by
    unfold colMax
    simp only [hA _ b]
  simp only [St.step]
  rw [pay13_at, pay14_at, gate_off, ValueIdx.select_zero, hm]
  exact hp

/-! ## The loss -/

theorem loss_eq (lab : Fin 1024 → ℕ) (X G : Vec Ideal S128x1024 .bf16) (st : St Ideal)
    (h : ∀ b : Fin 1024, Holds (Zof sc b 100000) (st.mx (ix2 0 b)) (st.sm (ix2 0 b)))
    (hG : ∀ b : Fin 1024, ∑ k : Fin 128, X (ix2 k b) * G (ix2 k b) = ((sc b (lab b) : ℝ) : EReal)) :
    lossOf X G st (ix2 0 0) = ((lossR sc lab : ℝ) : EReal) := by
  rw [lossOf_at]
  simp only [fun b => (h b).log (Zof_pos sc b), hG, ← EReal.coe_sub]
  rw [coe_sum, ← EReal.coe_mul]
  rfl

end Cert.KernelIdeal.Run
-- ==== Proof.ValueBlocks.lean ====
/-
  The TensorCore call's blocks at coordinates, and its result array: the loss of the scores its blocks give.
-/
module

public import proofs.«01_k».proof.Proof.ValueStep
public import proofs.«01_k».proof.Proof.Main
public import Idealize.ShloMosaic.Lib.Pipeline.ValueKit

@[expose] public section

noncomputable section

namespace Cert.KernelIdeal.Run

open Cert.KernelIdeal Cert.KernelIdeal.Gen Cert.Value
open Idealize.ShloMosaic
open Idealize.ShloMosaic.TcCoe
open Idealize.ShloMosaic.Pipeline (afterRegion)

variable {F : FTy → Type} [FloatOps F] [Named F]
variable (W : Dev nD → Valuation τ sig (Elt F)) (b : ℕ)

theorem index_0 : ∀ t : Fin cfg1.N, win1_0.index t = ![0, 0] := (by decide +kernel : ∀ t : Fin grid1.N, _)
theorem index_1 : ∀ t : Fin cfg1.N, win1_1.index t = ![min t.val 24, 0] := (by decide +kernel : ∀ t : Fin grid1.N, _)
theorem index_2 : ∀ t : Fin cfg1.N, win1_2.index t = ![0, 0] := (by decide +kernel : ∀ t : Fin grid1.N, _)

theorem blkX_at (c : Dev nD) (t : Fin cfg1.N) (k : Fin 128) (b : Fin 1024) :
    blkX W c t (ix2 k b) = (W c (dr main_v5) : Vec F S128x1024 .bf16) (ix2 k b) := by
  unfold blkX
  blk_simp
  refine congrArg (W c (dr main_v5)) ?_
  blk_ext [index_0]

theorem blkG_at (c : Dev nD) (t : Fin cfg1.N) (k : Fin 128) (b : Fin 1024) :
    blkG W c t (ix2 k b) = (W c (dr main_v7) : Vec F S128x1024 .bf16) (ix2 k b) := by
  unfold blkG
  blk_simp
  refine congrArg (W c (dr main_v7)) ?_
  blk_ext [index_2]

theorem blkT_at (c : Dev nD) (t : Fin cfg1.N) (r : Fin 4000) (k : Fin 128) :
    blkT W c t (ix2 r k) = (W c (dr main_arg4) : Vec F S100000x128 .f32) (ix2 ⟨4000 * min t.val 24 + r.val, by omega⟩ k) := by
  unfold blkT
  blk_simp
  refine congrArg (W c (dr main_arg4)) ?_
  blk_ext [index_1]

theorem final_3 (d : Dev nD) : (afterRegion (dat W b d) (W d) (dr main_v8) : Vec F S1x1 .f32) = lossAt W d ⟨25, by decide⟩ := by
  refine (Pipeline.afterRegion_arr (dat W b d) (W d) winFacts1.arr_inj 3).trans ?_
  refine (dat W b d).arrAt_eq_of_after_last 3 ⟨25, by decide⟩ (by decide +kernel) _ fun j => ?_
  blk_simp
  rfl

end Cert.KernelIdeal.Run
-- ==== Proof.ValueKernel.lean ====
/-
  The kernel's result at the ideal floats: the loss over the real numbers, where the features and the table are finite and
  every label names a row of the table.
-/
module

public import proofs.«01_k».proof.Proof.ValueBlocks

@[expose] public section

noncomputable section

namespace Cert.KernelIdeal.Run

open Cert.KernelIdeal Cert.KernelIdeal.Gen Cert.Value
open Idealize.ShloMosaic
open Idealize.ShloMosaic.TcCoe
open Idealize.ShloMosaic.Pipeline (afterRegion)
open Idealize.ShloMosaic.StableHlo (launchContents after)

set_option maxRecDepth 16384

section
variable {F : FTy → Type} [FloatOps F] [Named F]
variable (m : (ℓ : Loc nD τ sig) → Buf (Elt F) ℓ) (d : Dev nD)

theorem V2_of_ne (b : DevRef τ sig) (h0 : b ≠ dr main_v0) (h1 : b ≠ dr main_v1) : V2 m d b = m (d, b) :=
  (Function.update_of_ne h1 _ _).trans (V1_of_ne m d b h0)

theorem V3_v5 : (V3 m d (dr main_v5) : Vec F S128x1024 .bf16)
    = truncf .bf16 (transpose S128x1024 [1, 0] (mulf (m (d, dr main_arg0) : Vec F S1024x128 .f32) (broadcastInDim S1024x128 ![] bcast_S_S1024x128 (constant S_ .f32 0x41A00000#32))) transposes_S1024x128_S128x1024_1_0) bitsLt_bf16_f32 := by
  rw [← V2_of_ne m d (dr main_arg0) (by decide) (by decide)]
  unfold V3
  after_results_simp

theorem V3_v7 : (V3 m d (dr main_v7) : Vec F S128x1024 .bf16)
    = truncf .bf16 (transpose S128x1024 [1, 0] (G m (fiOf m) d : Vec F S1024x128 .f32) transposes_S1024x128_S128x1024_1_0) bitsLt_bf16_f32 := by
  rw [← show V2 m d (dr main_v1) = G m (fiOf m) d from Function.update_self ..]
  unfold V3
  after_results_simp

theorem V3_arg4 : V3 m d (dr main_arg4) = m (d, dr main_arg4) := by
  rw [← V2_of_ne m d (dr main_arg4) (by decide) (by decide)]
  unfold V3
  after_results_simp

theorem G_at (b : Fin 1024) (k : Fin 128) (h : (word (fiOf m) d b).toNat < 100000) :
    (G m (fiOf m) d : Vec F S1024x128 .f32) (ix2 b k) = (m (d, dr main_arg4) : Vec F S100000x128 .f32) (ix2 ⟨(word (fiOf m) d b).toNat, h⟩ k) := by
  refine congrArg (m (d, dr main_arg4) : Vec F S100000x128 .f32) ?_
  funext a
  apply Fin.ext
  match a with
  | 0 => exact Nat.mod_eq_of_lt h
  | 1 => rfl

end

variable (m : (ℓ : Loc nD τ sig) → Buf (Elt Ideal) ℓ) (d : Dev nD)
variable (f : Fin 1024 → Fin 128 → ℝ) (s : ℕ → Fin 128 → ℝ)

/-- The features and the table are these real numbers. -/
def Reals : Prop :=
  (∀ b k, (m (d, dr main_arg0) : Vec Ideal S1024x128 .f32) (ix2 b k) = ((f b k : ℝ) : EReal))
  ∧ ∀ (i : Fin 100000) k, (m (d, dr main_arg4) : Vec Ideal S100000x128 .f32) (ix2 i k) = ((s i.val k : ℝ) : EReal)

variable {m d f s}

theorem X_at (h : Reals m d f s) (t : Fin cfg1.N) (k : Fin 128) (b : Fin 1024) : blkX (V3 m) d t (ix2 k b) = ((f b k * 20 : ℝ) : EReal) := by
  rw [blkX_at, V3_v5]
  pointwise
  rw [h.1, bits_20, ← EReal.coe_mul]

theorem G_block_at (h : Reals m d f s) (hl : PreOK (fiOf m)) (t : Fin cfg1.N) (k : Fin 128) (b : Fin 1024) :
    blkG (V3 m) d t (ix2 k b) = ((s (word (fiOf m) d b).toNat k : ℝ) : EReal) := by
  rw [blkG_at, V3_v7]
  pointwise
  rw [G_at m d b k (hl d b), h.2]

theorem T_at (h : Reals m d f s) (t : Fin cfg1.N) (r : Fin 4000) (k : Fin 128) :
    blkT (V3 m) d t (ix2 r k) = ((s (4000 * min t.val 24 + r.val) k : ℝ) : EReal) := by
  rw [blkT_at, V3_arg4, h.2]

theorem dot_score (i : ℕ) (b : Fin 1024) : ∑ k : Fin 128, ((s i k : ℝ) : EReal) * ((f b k * 20 : ℝ) : EReal) = ((score f s b i : ℝ) : EReal) := by
  simp only [← EReal.coe_mul]
  rw [coe_sum, score, Finset.sum_mul]
  congr 2
  funext k
  ring

theorem half_A (h : Reals m d f s) (t : Fin cfg1.N) : HalfA (score f s) (4000 * min t.val 24) (blkX (V3 m) d t) (blkT (V3 m) d t) := by
  intro r b
  rw [halfA_at]
  simp only [T_at h, X_at h]
  exact dot_score _ b

theorem half_B (h : Reals m d f s) (t : Fin cfg1.N) : HalfB (score f s) (4000 * min t.val 24) (blkX (V3 m) d t) (blkT (V3 m) d t) := by
  intro r b
  rw [halfB_at]
  simp only [T_at h, X_at h]
  rw [dot_score]
  congr 2
  omega

/-- After each point below 25. -/
theorem inv (h : Reals m d f s) : ∀ n : ℕ, n < 25 → Inv (score f s) n (stAt (V3 m) d (n + 1))
  | 0, _ => by
    have e := stAt_succ (V3 m) d ⟨0, by decide⟩
    rw [show stAt (V3 m) d (0 + 1) = _ from e]
    exact step_first _ _ _ (half_A h ⟨0, by decide⟩) (half_B h ⟨0, by decide⟩)
  | n + 1, hn => by
    have hN : n + 1 < cfg1.N := lt_of_lt_of_le hn (by decide)
    have e := stAt_succ (V3 m) d ⟨n + 1, hN⟩
    rw [show stAt (V3 m) d (n + 1 + 1) = _ from e]
    have hA := half_A h ⟨n + 1, hN⟩
    have hB := half_B h ⟨n + 1, hN⟩
    rw [show min (⟨n + 1, hN⟩ : Fin cfg1.N).val 24 = n + 1 from Nat.min_eq_left (by show n + 1 ≤ 24; omega)] at hA hB
    exact step_mid _ n hn _ _ hA hB _ (inv h n (by omega))

/-- The loss the last point leaves. -/
theorem lossAt_eq (h : Reals m d f s) (hl : PreOK (fiOf m)) :
    lossAt (V3 m) d ⟨25, by decide⟩ (ix2 0 0) = ((lossR (score f s) (fun b => (word (fiOf m) d b).toNat) : ℝ) : EReal) := by
  unfold lossAt
  refine loss_eq _ _ _ _ _ ?_ ?_
  · have e := stAt_succ (V3 m) d ⟨25, by decide⟩
    rw [e]
    exact step_last _ _ _ _ (half_A h ⟨25, by decide⟩) _ (inv h 24 (by omega))
  · intro b
    simp only [X_at h, G_block_at h hl]
    rw [← dot_score]
    exact Finset.sum_congr rfl fun k _ => mul_comm _ _

theorem kernel_value (h : Reals m d f s) (hl : PreOK (fiOf m)) :
    (V5 m d (dr main_v9) : Vec Ideal S_ .f32) = fun _ => ((lossR (score f s) (fun b => (word (fiOf m) d b).toNat) : ℝ) : EReal) := by
  unfold V5
  rw [StableHlo.reshape_result]
  funext j
  rw [show V4 m d (dr main_v8) = _ from final_3 (V3 m) 8 d]
  refine (shapeCast_apply _ shapeCasts_S1x1_S_ j (ix2 0 0) ?_).trans (lossAt_eq h hl)
  exact Subsingleton.elim (α := Fin 1) _ _ |> congrArg Fin.val

end Cert.KernelIdeal.Run
-- ==== Proof.ValueRef.lean ====
/-
  The reference's result at the ideal floats: the loss over the real numbers, where the features and the table are finite
  and every label names a row of the table.
-/
module

public import proofs.«01_k».proof.Proof.ValueMath
public import proofs.«01_k».proof.Proof.Gen.ReferenceIdeal.Run
public import Idealize.ShloMosaic.Lib.Pointwise
public import Idealize.ShloMosaic.Lib.Tactic.CleanTypes

@[expose] public section

noncomputable section

namespace Cert.ReferenceIdeal.Run

open Cert.ReferenceIdeal Cert.ReferenceIdeal.Gen Cert.Value
open Idealize.ShloMosaic
open Idealize.ShloMosaic.TcCoe

set_option maxRecDepth 16384

/-! ## The reference's values, one by one -/

/-- The scores. -/
def scores (A0 : FVec Ideal S1024x128 .f32) (A4 : FVec Ideal S100000x128 .f32) : FVec Ideal S1024x100000 .f32 :=
  Host.divf (Host.dotGeneral dot_S1024x128_S128x100000_S1024x100000_1_0_0_1_n_n none A0 (transpose S128x100000 [1, 0] A4 transposes_S100000x128_S128x100000_1_0))
    (broadcastInDim S1024x100000 ![] bcast_S_S1024x100000 (id (Host.divf (constant S_ .f32 0x3F800000#32) (constant S_ .f32 0x41A00000#32))))

/-- Each row's maximum. -/
def rowMax (x : FVec Ideal S1024x100000 .f32) : FVec Ideal S1024 .f32 :=
  Host.reduce FloatOps.maximumf x (constant S_ .f32 0xFF800000#32) reducesTo_S1024x100000_S1024_d1 h_S_

/-- The scores less a value of their row's. -/
def less (x : FVec Ideal S1024x100000 .f32) (μ : FVec Ideal S1024 .f32) : FVec Ideal S1024x100000 .f32 :=
  subf x (broadcastInDim S1024x100000 ![0, 1] bcast_S1024x1_S1024x100000_0_1 (broadcastInDim S1024x1 ![0] bcast_S1024_S1024x1_0
    (maximumf (broadcastInDim S1024 ![] bcast_S_S1024 (constant S_ .f32 0xFF800000#32)) μ)))

/-- The scores less their row's maximum. -/
def shifted (x : FVec Ideal S1024x100000 .f32) : FVec Ideal S1024x100000 .f32 := less x (rowMax x)

/-- The logarithms of the probabilities, of the shifted scores. -/
def logp (y : FVec Ideal S1024x100000 .f32) : FVec Ideal S1024x100000 .f32 :=
  subf y (broadcastInDim S1024x100000 ![0, 1] bcast_S1024x1_S1024x100000_0_1 (Host.log (broadcastInDim S1024x1 ![0] bcast_S1024_S1024x1_0
    (Host.reduceAdd (Host.exp y) (constant S_ .f32 0x00000000#32) reducesTo_S1024x100000_S1024_d1 h_S_))))

/-- The labels, a negative one counted from the table's end. -/
def wrapped (L : IVec S1024 32) : IVec S1024x1x1 32 :=
  shapeCast _ (select (cmpi .slt (broadcastInDim S1024x1 ![0] bcast_S1024_S1024x1_0 L) (broadcastInDim S1024x1 ![] bcast_S_S1024x1 (constantI S_ 32 0#32)))
    (addi (broadcastInDim S1024x1 ![0] bcast_S1024_S1024x1_0 L) (broadcastInDim S1024x1 ![] bcast_S_S1024x1 (constantI S_ 32 100000#32)))
    (broadcastInDim S1024x1 ![0] bcast_S1024_S1024x1_0 L)) shapeCasts_S1024x1_S1024x1x1

/-- Whether each is a row of the table. -/
def inside (w : IVec S1024x1x1 32) : IVec S1024x1 1 :=
  Host.reduce IntOp.andi (andi (cmpi .sge w (broadcastInDim S1024x1x1 ![] bcast_S_S1024x1x1 (constantI S_ 32 0#32)))
    (cmpi .sle w (broadcastInDim S1024x1x1 ![0, 1, 2] bcast_S1x1x1_S1024x1x1_0_1_2 (broadcastInDim S1x1x1 ![2] bcast_S1_S1x1x1_2 (constantI S1 32 99999#32)))))
    (constantI S_ 1 1#1) reducesTo_S1024x1x1_S1024x1_d2 h_S_

/-- Each sample's value at its label. -/
def picked (p : FVec Ideal S1024x100000 .f32) (w : IVec S1024x1x1 32) : FVec Ideal S1024 .f32 :=
  shapeCast _ (select (inside w) (Host.gather gather_S1024x100000_S1024x1x1_S1024x1_n_1_0_0_1_2_11 p w)
    (broadcastInDim S1024x1 ![] bcast_S_S1024x1 (constant S_ .f32 0x7FC00000#32))) shapeCasts_S1024x1_S1024

/-- The loss of the picked values. -/
def meanLoss (v : FVec Ideal S1024 .f32) : FVec Ideal S_ .f32 :=
  Host.negf (Host.divf (Host.reduceAdd v (constant S_ .f32 0x00000000#32) reducesTo_S1024_S_d0 h_S_) (constant S_ .f32 0x44800000#32))

variable (m : (ℓ : Loc nD τ sig) → Buf (Elt Ideal) ℓ) (c : Dev nD)

theorem res_eq : (Cert.ReferenceIdeal.Value.res_out0 m c : FVec Ideal S_ .f32)
    = meanLoss (picked (logp (shifted (scores (m ((c.tc : Thread nD τ).loc main_arg0)) (m ((c.tc : Thread nD τ).loc main_arg4))))) (wrapped (m ((c.tc : Thread nD τ).loc main_arg3)))) := rfl

variable {f : Fin 1024 → Fin 128 → ℝ} {s : ℕ → Fin 128 → ℝ}

theorem temp_at : (id (Host.divf (constant S_ .f32 0x3F800000#32) (constant S_ .f32 0x41A00000#32)) : FVec Ideal S_ .f32) ix0 = ((1 / 20 : ℝ) : EReal) := by
  show Ideal.div (Ideal.ofBits .f32 0x3F800000#32) (Ideal.ofBits .f32 0x41A00000#32) = _
  rw [Ideal.ofBits_one_f32, bits_20, Ideal.div_coe (by norm_num), one_mul]

theorem scores_at (A0 : FVec Ideal S1024x128 .f32) (A4 : FVec Ideal S100000x128 .f32) (h0 : ∀ b k, A0 (ix2 b k) = ((f b k : ℝ) : EReal))
    (h4 : ∀ (i : Fin 100000) k, A4 (ix2 i k) = ((s i.val k : ℝ) : EReal)) (b : Fin 1024) (i : Fin 100000) :
    scores A0 A4 (ix2 b i) = ((score f s b i.val : ℝ) : EReal) := by
  pointwise [scores]
  rw [temp_at]
  simp only [h0, h4, ← EReal.coe_mul]
  rw [coe_sum, Ideal.div_coe (by norm_num), ← EReal.coe_mul, score]
  norm_num

/-- Along its columns, at any size: an index of the reduced shape with a column put in. -/
theorem lift_at {R N : ℕ} (h : Shape.Reduces ⟨2, ![R, N]⟩ [1] ⟨1, ![R]⟩) (b : Fin R) (i : Fin N) : h.lift (ix1 b) i = ix2 b i := by
  funext a
  apply Fin.ext
  match a with
  | 0 => rfl
  | 1 => rfl

/-- A row's maximum from an initial value, at any size. -/
theorem max_at {R N : ℕ} (x : FVec Ideal ⟨2, ![R, N]⟩ .f32) (z : FVec Ideal S_ .f32) (h' : Shape.ReducesTo ⟨2, ![R, N]⟩ [1] ⟨1, ![R]⟩)
    (h : Shape.Reduces ⟨2, ![R, N]⟩ [1] ⟨1, ![R]⟩) (hu : 0 < S_.numel) (b : Fin R) :
    Host.reduce FloatOps.maximumf x z h' hu (ix1 b) = Finset.fold max (z (Shape.Idx.first hu)) (fun i : Fin N => x (ix2 b i)) Finset.univ :=
  (Host.reduce_eq_fold_single (FloatOps.maximumf (F := Ideal) (φ := .f32)) x z h' h hu (ix1 b)).trans
    (congrArg (fun g => Finset.fold max (z (Shape.Idx.first hu)) g Finset.univ) (funext fun i => congrArg x (lift_at h b i)))

theorem red : S1024x100000.Reduces [1] S1024 := by decide

theorem rowMax_at (x : FVec Ideal S1024x100000 .f32) (b : Fin 1024) :
    rowMax x (ix1 b) = Finset.fold max (Ideal.ofBits .f32 0xFF800000#32) (fun i : Fin 100000 => x (ix2 b i)) Finset.univ :=
  max_at (R := 1024) (N := 100000) x (constant S_ .f32 0xFF800000#32) reducesTo_S1024x100000_S1024_d1 red h_S_ b

theorem less_at (x : FVec Ideal S1024x100000 .f32) (μ : FVec Ideal S1024 .f32) (b : Fin 1024) (i : Fin 100000) :
    less x μ (ix2 b i) = x (ix2 b i) - max ⊥ (μ (ix1 b)) := by
  pointwise [less]
  rw [bits_neg_inf]

theorem shifted_at (x : FVec Ideal S1024x100000 .f32) (b : Fin 1024) (i : Fin 100000) :
    shifted x (ix2 b i) = x (ix2 b i) - max ⊥ (rowMax x (ix1 b)) := less_at x (rowMax x) b i

theorem logp_at (x : FVec Ideal S1024x100000 .f32) (b : Fin 1024) (i : Fin 100000) :
    logp x (ix2 b i) = x (ix2 b i) - Ideal.log (∑ i, Ideal.exp (x (ix2 b i))) := by
  pointwise [logp]

theorem wrapped_at (L : IVec S1024 32) (b : Fin 1024) (x y : Fin 1) (h : (L (ix1 b)).toNat < 100000) :
    wrapped L (ix3 b x y) = L (ix1 b) := by
  pointwise [wrapped]
  rw [show IntOp.cmpi .slt (L (ix1 b)) 0#32 = 0#1 from ?_, ValueIdx.select_zero]
  have : (L (ix1 b)).slt 0#32 = false := by
    simp only [BitVec.slt_eq_decide, BitVec.toInt_eq_toNat_cond, BitVec.toNat_ofNat, Nat.reducePow, Nat.reduceMod, decide_eq_false_iff_not]
    omega
  exact congrArg BitVec.ofBool this

theorem inside_at (w : IVec S1024x1x1 32) (b : Fin 1024) (x : Fin 1) (h : ∀ y, (w (ix3 b 0 y)).toNat < 100000) :
    inside w (ix2 b x) = 1#1 := by
  pointwise [inside]
  have hb (y : Fin 1) : IntOp.andi (IntOp.cmpi .sge (w (ix3 b 0 y)) 0#32) (IntOp.cmpi .sle (w (ix3 b 0 y)) 99999#32) = 1#1 := by
    have h0 : (0#32).sle (w (ix3 b 0 y)) = true := by
      have := h y
      simp only [BitVec.sle_eq_decide, BitVec.toInt_eq_toNat_cond, BitVec.toNat_ofNat, Nat.reducePow, Nat.reduceMod, decide_eq_true_eq]
      omega
    have h1 : (w (ix3 b 0 y)).sle 99999#32 = true := by
      have := h y
      simp only [BitVec.sle_eq_decide, BitVec.toInt_eq_toNat_cond, BitVec.toNat_ofNat, Nat.reducePow, Nat.reduceMod, decide_eq_true_eq]
      omega
    rw [show IntOp.cmpi .sge (w (ix3 b 0 y)) 0#32 = 1#1 from congrArg BitVec.ofBool h0,
      show IntOp.cmpi .sle (w (ix3 b 0 y)) 99999#32 = 1#1 from congrArg BitVec.ofBool h1]
    rfl
  simp only [hb]
  rfl

theorem gather_at (p : FVec Ideal S1024x100000 .f32) (w : IVec S1024x1x1 32) (b : Fin 1024) (l : Fin 100000) (h : (w (ix3 b 0 0)).toNat = l.val) :
    Host.gather gather_S1024x100000_S1024x1x1_S1024x1_n_1_0_0_1_2_11 p w (ix2 b 0) = p (ix2 b l) := by
  unfold Host.gather
  refine congrArg p ?_
  have hsi (n) : GatherDims.siIdx gather_S1024x100000_S1024x1x1_S1024x1_n_1_0_0_1_2_11 (ix2 b 0) n = ix3 b 0 0 := by
    funext a
    apply Fin.ext
    match a with
    | 0 => rfl
    | 1 => rfl
    | 2 => exact Nat.lt_one_iff.mp n.isLt
  funext a
  apply Fin.ext
  match a with
  | 0 =>
    show GatherDims.start _ _ _ _ + GatherDims.batchCoord _ _ _ + GatherDims.offCoord _ _ _ = b.val
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    rfl
  | 1 =>
    show GatherDims.start _ _ _ _ + GatherDims.batchCoord _ _ _ + GatherDims.offCoord _ _ _ = l.val
    rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (1 : Fin S1024x100000.rank) ∈ gather_S1024x100000_S1024x1x1_S1024x1_n_1_0_0_1_2_11.startIndexMap from List.mem_singleton.mpr rfl), hsi]
    have hi : (w (ix3 b 0 0)).toInt = (l.val : ℤ) := by
      rw [BitVec.toInt_eq_toNat_cond, h, if_pos (by have := l.isLt; omega)]
    rw [hi, Int.toNat_natCast]
    exact Nat.min_eq_left (by have := l.isLt; show l.val ≤ 100000 - 1; omega)

theorem picked_at (p : FVec Ideal S1024x100000 .f32) (w : IVec S1024x1x1 32) (b : Fin 1024) (l : Fin 100000) (h : (w (ix3 b 0 0)).toNat = l.val) :
    picked p w (ix1 b) = p (ix2 b l) := by
  pointwise [picked]
  rw [inside_at w b 0 fun y => by obtain rfl : y = 0 := Subsingleton.elim _ _; rw [h]; exact l.isLt]
  rw [ValueIdx.select_one]
  exact gather_at p w b l h

theorem meanLoss_at (v : FVec Ideal S1024 .f32) (j : S_.Idx) :
    meanLoss v j = - ((∑ b : Fin 1024, v (ix1 b)) * ((1 / 1024 : ℝ) : EReal)) := by
  pointwise [meanLoss]
  rw [bits_1024, Ideal.div_coe (by norm_num)]

/-! ## The loss over the real numbers -/

/-- The logarithm of a probability, of real scores: the score less the logarithm of all their exponentials. -/
theorem logp_real (x : FVec Ideal S1024x100000 .f32) (sc : Fin 1024 → ℕ → ℝ) (hx : ∀ b (i : Fin 100000), x (ix2 b i) = ((sc b i.val : ℝ) : EReal)) (b : Fin 1024) (i : Fin 100000) :
    logp (shifted x) (ix2 b i) = ((sc b i.val - Real.log (Zof sc b 100000) : ℝ) : EReal) := by
  obtain ⟨μ, hμ⟩ := max_fold_real (n := 100000) (by omega) ⊥ bot_ne_top fun i => sc b i.val
  have hM : max ⊥ (rowMax x (ix1 b)) = ((μ : ℝ) : EReal) := by
    rw [rowMax_at, bits_neg_inf, ← hμ]
    exact congrArg (fun g => max ⊥ (Finset.fold max (⊥ : EReal) g Finset.univ)) (funext fun i => hx b i)
  have hZ : (∑ i : Fin 100000, Real.exp (sc b i.val)) = Zof sc b 100000 := (Finset.sum_range (fun i => Real.exp (sc b i))).symm
  rw [logp_at]
  simp only [shifted_at, hM, hx]
  rw [sum_exp, hZ]
  have hp := Zof_pos sc b
  generalize Zof sc b 100000 = Z at hp ⊢
  have hq : 0 < Z * Real.exp (-μ) := mul_pos hp (Real.exp_pos _)
  rw [Ideal.log_coe, if_neg (not_le.mpr hq), Real.log_mul hp.ne' (Real.exp_pos _).ne', Real.log_exp, ← EReal.coe_sub, ← EReal.coe_sub]
  exact congrArg (fun r : ℝ => (r : EReal)) (by ring)

theorem ref_value (h0 : ∀ b k, (m ((c.tc : Thread nD τ).loc main_arg0) : FVec Ideal S1024x128 .f32) (ix2 b k) = ((f b k : ℝ) : EReal))
    (h4 : ∀ (i : Fin 100000) k, (m ((c.tc : Thread nD τ).loc main_arg4) : FVec Ideal S100000x128 .f32) (ix2 i k) = ((s i.val k : ℝ) : EReal))
    (hl : ∀ b, ((m ((c.tc : Thread nD τ).loc main_arg3) : IVec S1024 32) (ix1 b)).toNat < 100000) :
    (Cert.ReferenceIdeal.Value.res_out0 m c : FVec Ideal S_ .f32)
      = fun _ => ((lossR (score f s) (fun b => ((m ((c.tc : Thread nD τ).loc main_arg3) : IVec S1024 32) (ix1 b)).toNat) : ℝ) : EReal) := by
  funext j
  rw [res_eq, meanLoss_at]
  have hv (b : Fin 1024) := picked_at (logp (shifted (scores (m ((c.tc : Thread nD τ).loc main_arg0)) (m ((c.tc : Thread nD τ).loc main_arg4)))))
    (wrapped (m ((c.tc : Thread nD τ).loc main_arg3))) b ⟨_, hl b⟩ (congrArg BitVec.toNat (wrapped_at _ b 0 0 (hl b)))
  simp only [hv, logp_real _ (score f s) (scores_at _ _ h0 h4)]
  rw [coe_sum, ← EReal.coe_mul, ← EReal.coe_neg, lossR, ← neg_mul, ← Finset.sum_neg_distrib]
  exact congrArg (fun r : ℝ => ((r * (1 / 1024) : ℝ) : EReal)) (Finset.sum_congr rfl fun b _ => neg_sub _ _)

end Cert.ReferenceIdeal.Run
-- ==== Proof.Algebraic.lean ====
/-
  The kernel and the reference, at the ideal floats: one result from the same arguments, where the features and the table are
  finite and every label names a row of the table. Also the two frames under that precondition.
-/
module

public import proofs.«01_k».proof.Proof.Frames
public import proofs.«01_k».proof.Proof.ValueKernel
public import proofs.«01_k».proof.Proof.ValueRef
public import proofs.«01_k».proof.Proof.Gen.Pre_labels_in_storage_and_finite

@[expose] public section

noncomputable section

namespace Cert.KernelIdeal.Run

open Cert.KernelIdeal Cert.KernelIdeal.Gen Cert.Value
open Idealize.ShloMosaic Idealize.SL.Sem
open Idealize.ShloMosaic.TcCoe

set_option maxRecDepth 16384

variable (m : (ℓ : Loc nD τ sig) → Buf (Elt Ideal) ℓ)

/-! ## What the precondition says -/

theorem ok_of_finite (h : Cert.Pre_KernelIdeal_labels_in_storage_and_finite m) : PreOK (fiOf m) := by
  intro d b
  rw [word_fiOf]
  exact lt_of_flags _ (congrFun (h d).1 (at1 b))

/-- The bit pattern of an infinite float. -/
theorem bits_inf : Ideal.ofBits .f32 0x7F800000#32 = ⊤ := by
  simp [Ideal.ofBits, Ideal.ieee]

/-- A value whose magnitude is below infinity is a real number. -/
theorem real_of_flag (x : EReal) (h : FloatOps.cmpf (F := Ideal) (φ := .f32) .olt (FloatOps.hostAbsf (F := Ideal) (φ := .f32) x) (Ideal.ofBits .f32 0x7F800000#32) = 1#1) :
    x = ((x.toReal : ℝ) : EReal) := by
  rw [bits_inf] at h
  change Ideal.cmp .olt (max x (-x)) ⊤ = 1#1 at h
  induction x with
  | bot => exact absurd h (by simp [Ideal.cmp])
  | top => exact absurd h (by simp [Ideal.cmp])
  | coe r => rfl

/-- The features, as real numbers. -/
def feats (d : Dev nD) (b : Fin 1024) (k : Fin 128) : ℝ := EReal.toReal ((m (d, dr main_arg0) : Vec Ideal S1024x128 .f32) (ix2 b k))

/-- The table, as real numbers; zero past its end. -/
def table (d : Dev nD) (i : ℕ) (k : Fin 128) : ℝ :=
  if h : i < 100000 then EReal.toReal ((m (d, dr main_arg4) : Vec Ideal S100000x128 .f32) (ix2 ⟨i, h⟩ k)) else 0

theorem reals_of_finite (h : Cert.Pre_KernelIdeal_labels_in_storage_and_finite m) (d : Dev nD) : Reals m d (feats m d) (table m d) := by
  refine ⟨fun b k => real_of_flag _ (congrFun (h d).2.1 (ix2 b k)), fun i k => ?_⟩
  rw [table, dif_pos i.isLt]
  exact real_of_flag _ (congrFun (h d).2.2 (ix2 i k))

/-! ## The frames under it -/

theorem frame_finite : Cert.quiescent_KernelIdeal_pre_labels_in_storage_and_finite := fun m ρ hpre =>
  (θ_run Cert.KernelIdeal.defs _ _).mono (fun _ h => ⟨fun c => (h.1 c).2, h.2⟩) (run_args m ρ (ok_of_finite m hpre))

theorem _root_.Cert.ReferenceIdeal.Run.frame_finite : Cert.quiescent_ReferenceIdeal_pre_labels_in_storage_and_finite :=
  fun m ρ _ => Cert.ReferenceIdeal.Run.frame m ρ trivial

/-! ## One result -/

/-- The loss of the arguments. -/
def lossOut (d : Dev nD) : Vec Ideal S_ .f32 :=
  fun _ => ((lossR (score (feats m d) (table m d)) (fun b => (word (fiOf m) d b).toNat) : ℝ) : EReal)

theorem at1_eq (b : Fin 1024) : at1 b = ix1 b := by
  funext a
  obtain rfl : a = 0 := Subsingleton.elim _ _
  rfl

/-- The reference's result from a memory that holds the kernel's features, labels and table. -/
theorem ref_loss (hpre : Cert.Pre_KernelIdeal_labels_in_storage_and_finite m)
    (m' : (ℓ : Loc Cert.ReferenceIdeal.nD Cert.ReferenceIdeal.τ Cert.ReferenceIdeal.sig) → Buf (Elt Ideal) ℓ) (c : Dev nD)
    (e0 : m' ((c.tc : Thread Cert.ReferenceIdeal.nD Cert.ReferenceIdeal.τ).loc Cert.ReferenceIdeal.main_arg0) = m (c, dr main_arg0))
    (e3 : m' ((c.tc : Thread Cert.ReferenceIdeal.nD Cert.ReferenceIdeal.τ).loc Cert.ReferenceIdeal.main_arg3) = m (c, dr main_arg3))
    (e4 : m' ((c.tc : Thread Cert.ReferenceIdeal.nD Cert.ReferenceIdeal.τ).loc Cert.ReferenceIdeal.main_arg4) = m (c, dr main_arg4)) :
    (Cert.ReferenceIdeal.Value.res_out0 m' c : Vec Ideal S_ .f32) = lossOut m c := by
  have hR := reals_of_finite m hpre c
  have hw (b : Fin 1024) : (m' ((c.tc : Thread Cert.ReferenceIdeal.nD Cert.ReferenceIdeal.τ).loc Cert.ReferenceIdeal.main_arg3) : IVec Cert.ReferenceIdeal.S1024 32) (ix1 b) = word (fiOf m) c b := by
    rw [word_fiOf, at1_eq]
    exact congrFun e3 (ix1 b)
  refine (Cert.ReferenceIdeal.Run.ref_value m' c (f := feats m c) (s := table m c) (fun b k => (congrFun e0 (ix2 b k)).trans (hR.1 b k))
    (fun i k => (congrFun e4 (ix2 i k)).trans (hR.2 i k)) (fun b => by rw [hw b]; exact ok_of_finite m hpre c b)).trans ?_
  unfold lossOut
  rw [show (fun b => ((m' ((c.tc : Thread Cert.ReferenceIdeal.nD Cert.ReferenceIdeal.τ).loc Cert.ReferenceIdeal.main_arg3) : IVec Cert.ReferenceIdeal.S1024 32) (ix1 b)).toNat)
    = fun b => (word (fiOf m) c b).toNat from funext fun b => congrArg BitVec.toNat (hw b)]
  rfl

theorem algebraic : Cert.algebraic_KernelIdeal_ReferenceIdeal_pre_labels_in_storage_and_finite := fun m g m' g' hpre he =>
  ⟨lossOut m,
    (θ_run Cert.KernelIdeal.defs _ _).mono
      (fun _ h c => ⟨(h.1 c).1.trans (kernel_value (reals_of_finite m hpre c) (ok_of_finite m hpre)), (h.1 c).2⟩) (run_args m g (ok_of_finite m hpre)),
    (θ_run Cert.ReferenceIdeal.defs _ _).mono
      (fun _ h c => ⟨(h c).1.trans (ref_loss m hpre m' c (he c).1 (he c).2.2.2.1 (he c).2.2.2.2), (h c).2⟩) (Cert.ReferenceIdeal.Value.run (F := Ideal) m' g')⟩

end Cert.KernelIdeal.Run

end
-- ==== Proof.lean ====
/-
  The claims, from the modules that prove them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_labels_in_storage
public import proofs.«01_k».proof.Proof.Gen.Pre_labels_in_storage_and_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The mask's value at the ideal instance, as the table of named constants gives it. -/
theorem preserves : Cert.preserves_Kernel_KernelIdeal := IdealRules.named_const.statement _ _ _ _ _ rfl

theorem claim : Cert.Claim := ⟨Cert.Kernel.Gen.facts, Cert.KernelIdeal.Gen.facts, Cert.ReferenceIdeal.Gen.facts, Cert.Pre_labels_in_storage.Gen.facts, Cert.Pre_labels_in_storage_and_finite.Gen.facts,
  Cert.Kernel.Run.frame, Cert.KernelIdeal.Run.frame, Cert.KernelIdeal.Run.frame_finite, Cert.ReferenceIdeal.Run.frame, Cert.ReferenceIdeal.Run.frame_finite,
  preserves, Cert.KernelIdeal.Run.algebraic⟩

end Cert.Proof

end
